-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S16384 : Shape := ⟨1, ![16384]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S8x1x2048 : Shape := ⟨3, ![8, 1, 2048]⟩
abbrev S1x64 : Shape := ⟨2, ![1, 64]⟩
abbrev S1x32 : Shape := ⟨2, ![1, 32]⟩
abbrev S512x64 : Shape := ⟨2, ![512, 64]⟩
abbrev S1x1x2048 : Shape := ⟨3, ![1, 1, 2048]⟩
abbrev S3x2048x1024 : Shape := ⟨3, ![3, 2048, 1024]⟩
abbrev S3 : Shape := ⟨1, ![3]⟩
abbrev S512x65 : Shape := ⟨2, ![512, 65]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩
abbrev S1x2048 : Shape := ⟨2, ![1, 2048]⟩
abbrev S2048x64 : Shape := ⟨2, ![2048, 64]⟩
abbrev S2048x32 : Shape := ⟨2, ![2048, 32]⟩
abbrev S32x2048 : Shape := ⟨2, ![32, 2048]⟩
abbrev S512x1 : Shape := ⟨2, ![512, 1]⟩
abbrev S512x2048 : Shape := ⟨2, ![512, 2048]⟩
abbrev S2048x1 : Shape := ⟨2, ![2048, 1]⟩
abbrev S2048x65 : Shape := ⟨2, ![2048, 65]⟩
abbrev S16x2048 : Shape := ⟨2, ![16, 2048]⟩

abbrev nBuf : Space → Nat
  | .hbm => 11
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S8x1x2048, .i32⟩
  | .hbm, ⟨7, _⟩ => ⟨S1x64, .f32⟩
  | .hbm, ⟨8, _⟩ => ⟨S1x32, .f32⟩
  | .hbm, ⟨9, _⟩ => ⟨S512x64, .f32⟩
  | .hbm, ⟨10, _⟩ => ⟨S16x2048, .f32⟩
  | .local _ .vmem, ⟨0, _⟩ => ⟨S1x1x2048, .i32⟩
  | .local _ .vmem, ⟨1, _⟩ => ⟨S1x1x2048, .i32⟩
  | .local _ .vmem, ⟨2, _⟩ => ⟨S1024x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S512x64, .f32⟩
  | .local _ .vmem, ⟨7, _⟩ => ⟨S3x2048x1024, .f32⟩
  | .local _ .vmem, ⟨8, _⟩ => ⟨S512x65, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c3_i32_1 : BitVec 32 := 3#32
  let v4 : BitVec 32 := Scalar.addi arg0 c3_i32_1
  let c1_i32 : BitVec 32 := 1#32
  let v5 : BitVec 32 := Scalar.subi v4 c1_i32
  let c8_i32 : BitVec 32 := 8#32
  let v6 : BitVec 1 := Scalar.cmpi .slt v5 c8_i32
  let v7 : BitVec 32 := Scalar.extui v6
  let c0_i32_2 : BitVec 32 := 0#32
  let v8 : BitVec 1 := Scalar.cmpi .ne v7 c0_i32_2
  v8

def k0_off1 (i : grid0.Coords) : Fin 1 → Nat :=
  let arg0 : BitVec 32 := BitVec.ofNat 32 (i 0).val
  let c3_i32_35 : BitVec 32 := 3#32
  let v82 : BitVec 32 := Scalar.addi arg0 c3_i32_35
  let c1_i32_36 : BitVec 32 := 1#32
  let v83 : BitVec 32 := Scalar.subi v82 c1_i32_36
  let c3_i32_37 : BitVec 32 := 3#32
  let v84 : BitVec 32 := Scalar.remsi v83 c3_i32_37
  ![v84.toNat]
def k0_off2 (i : grid0.Coords) : Fin 3 → Nat :=
  let arg0 : BitVec 32 := BitVec.ofNat 32 (i 0).val
  let c3_i32_35 : BitVec 32 := 3#32
  let v82 : BitVec 32 := Scalar.addi arg0 c3_i32_35
  let c1_i32_36 : BitVec 32 := 1#32
  let v83 : BitVec 32 := Scalar.subi v82 c1_i32_36
  let c3_i32_37 : BitVec 32 := 3#32
  let v84 : BitVec 32 := Scalar.remsi v83 c3_i32_37
  let c0_i32_39 : BitVec 32 := 0#32
  let c0_i32_40 : BitVec 32 := 0#32
  ![v84.toNat, 0, 0]
def k0_off3 (i : grid0.Coords) : Fin 2 → Nat :=
  let arg0 : BitVec 32 := BitVec.ofNat 32 (i 0).val
  let c3_i32_33 : BitVec 32 := 3#32
  let v80 : BitVec 32 := Scalar.addi arg0 c3_i32_33
  let c1_i32_34 : BitVec 32 := 1#32
  let v81 : BitVec 32 := Scalar.subi v80 c1_i32_34
  let c2048_i32_38 : BitVec 32 := 2048#32
  let v85 : BitVec 32 := Scalar.muli v81 c2048_i32_38
  let c0_i32_41 : BitVec 32 := 0#32
  ![v85.toNat, 0]
def k0_off4 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off5 (i : grid0.Coords) : Fin 3 → Nat :=
  let arg0 : BitVec 32 := BitVec.ofNat 32 (i 0).val
  let c3_i32 : BitVec 32 := 3#32
  let v3 : BitVec 32 := Scalar.remsi arg0 c3_i32
  let c0_i32_3 : BitVec 32 := 0#32
  let c0_i32_4 : BitVec 32 := 0#32
  ![v3.toNat, 0, 0]
def k0_off6 (i : grid0.Coords) : Fin 2 → Nat :=
  let arg0 : BitVec 32 := BitVec.ofNat 32 (i 0).val
  let c2048_i32 : BitVec 32 := 2048#32
  let v9 : BitVec 32 := Scalar.muli arg0 c2048_i32
  let c0_i32_5 : BitVec 32 := 0#32
  ![v9.toNat, 0]
def k0_off7 (i : grid0.Coords) : Fin 3 → Nat :=
  let arg0 : BitVec 32 := BitVec.ofNat 32 (i 0).val
  let c3_i32 : BitVec 32 := 3#32
  let v3 : BitVec 32 := Scalar.remsi arg0 c3_i32
  let v17 : Index := Scalar.indexCast v3
  let c0_8 : Index := 0#32
  let c0_9 : Index := 0#32
  ![v17.toNat, 0, 0]
def k0_cond3 (i : grid0.Coords) : BitVec 1 :=
  let arg0 : BitVec 32 := BitVec.ofNat 32 (i 0).val
  let c7_i32 : BitVec 32 := 7#32
  let v77 : BitVec 1 := Scalar.cmpi .eq arg0 c7_i32
  let v78 : BitVec 32 := Scalar.extui v77
  let c0_i32_32 : BitVec 32 := 0#32
  let v79 : BitVec 1 := Scalar.cmpi .ne v78 c0_i32_32
  v79

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1024 : Shape := ⟨2, ![16384, 1024]⟩
abbrev S16384 : Shape := ⟨1, ![16384]⟩
abbrev S1024x64 : Shape := ⟨2, ![1024, 64]⟩
abbrev S64 : Shape := ⟨1, ![64]⟩
abbrev S64x32 : Shape := ⟨2, ![64, 32]⟩
abbrev S32 : Shape := ⟨1, ![32]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S_ : Shape := ⟨0, ![]⟩
abbrev S16x32 : Shape := ⟨2, ![16, 32]⟩
abbrev S16384x1 : Shape := ⟨2, ![16384, 1]⟩
abbrev S16384x32x1 : Shape := ⟨3, ![16384, 32, 1]⟩
abbrev S16384x1x64 : Shape := ⟨3, ![16384, 1, 64]⟩
abbrev S16384x32x64 : Shape := ⟨3, ![16384, 32, 64]⟩
abbrev S16384x2048 : Shape := ⟨2, ![16384, 2048]⟩
abbrev S16x2048 : Shape := ⟨2, ![16, 2048]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1024x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S16384x64, .f32⟩
  | .hbm, ⟨7, _⟩ => ⟨S1x64, .f32⟩
  | .hbm, ⟨8, _⟩ => ⟨S16384x64, .f32⟩
  | .hbm, ⟨9, _⟩ => ⟨S16384x64, .f32⟩
  | .hbm, ⟨10, _⟩ => ⟨S16384x32, .f32⟩
  | .hbm, ⟨11, _⟩ => ⟨S1x32, .f32⟩
  | .hbm, ⟨12, _⟩ => ⟨S16384x32, .f32⟩
  | .hbm, ⟨13, _⟩ => ⟨S16384x32, .f32⟩
  | .hbm, ⟨14, _⟩ => ⟨S16384x32, .f32⟩
  | .hbm, ⟨15, _⟩ => ⟨S_, .f32⟩
  | .hbm, ⟨16, _⟩ => ⟨S16x32, .f32⟩
  | .hbm, ⟨17, _⟩ => ⟨S16384x1, .i32⟩
  | .hbm, ⟨18, _⟩ => ⟨S16x32, .f32⟩
  | .hbm, ⟨19, _⟩ => ⟨S_, .i32⟩
  | .hbm, ⟨20, _⟩ => ⟨S16384, .i32⟩
  | .hbm, ⟨21, _⟩ => ⟨S16384, .i1⟩
  | .hbm, ⟨22, _⟩ => ⟨S_, .i32⟩
  | .hbm, ⟨23, _⟩ => ⟨S16384, .i32⟩
  | .hbm, ⟨24, _⟩ => ⟨S16384, .i32⟩
  | .hbm, ⟨25, _⟩ => ⟨S16384, .i32⟩
  | .hbm, ⟨26, _⟩ => ⟨S16384x1, .i32⟩
  | .hbm, ⟨27, _⟩ => ⟨S16384x32, .f32⟩
  | .hbm, ⟨28, _⟩ => ⟨S_, .f32⟩
  | .hbm, ⟨29, _⟩ => ⟨S16384x32, .f32⟩
  | .hbm, ⟨30, _⟩ => ⟨S16384x32, .f32⟩
  | .hbm, ⟨31, _⟩ => ⟨S16384x32, .f32⟩
  | .hbm, ⟨32, _⟩ => ⟨S16384x32x1, .f32⟩
  | .hbm, ⟨33, _⟩ => ⟨S16384x1x64, .f32⟩
  | .hbm, ⟨34, _⟩ => ⟨S16384x32x64, .f32⟩
  | .hbm, ⟨35, _⟩ => ⟨S16384x32x64, .f32⟩
  | .hbm, ⟨36, _⟩ => ⟨S16384x32x64, .f32⟩
  | .hbm, ⟨37, _⟩ => ⟨S16384x2048, .f32⟩
  | .hbm, ⟨38, _⟩ => ⟨S_, .f32⟩
  | .hbm, ⟨39, _⟩ => ⟨S16x2048, .f32⟩
  | .hbm, ⟨40, _⟩ => ⟨S16384x1, .i32⟩
  | .hbm, ⟨41, _⟩ => ⟨S16x2048, .f32⟩
  | .hbm, ⟨42, _⟩ => ⟨S_, .f32⟩
  | .hbm, ⟨43, _⟩ => ⟨S16x2048, .f32⟩
  | .hbm, ⟨44, _⟩ => ⟨S16x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Proof.Run.Setup.lean ====
/- The pieces the runs of the kernel share: the branch conditions in closed form, the staging and scratch buffers, and the ring of
   three slots that streams the rows of `x` two blocks ahead. -/
module

public import proofs.«01_k».proof.Proof.Gen.KernelIdeal.Frame
public import proofs.«01_k».proof.Proof.Gen.KernelIdeal.Skeleton
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The lines of the program around the region -/

/-- The program runs the host lines before the region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer that no window streams, other than the result, ends as the region finds it. -/
theorem rest_kept (dats : (p : Fin _) → (c : Dev nD) → Dat τ (Elt F) Unit ℕ (Pipeline.UD sig nD τ) ℕ (cfgs p) c) (c : Dev nD)
    (r : Ref sig .tc) (hr : r ≠ main_v4) (hw : ∀ w, Pipeline.arrRef spec0 w ≠ r) :
    Pipeline.afterTail₀ cfgs dats 0 (V0 m) [hostOps1] c r = V0 m c r := by
  unfold Pipeline.afterTail₀
  rw [StableHlo.after_of_forall_not_mem (b := Proc.devRef .tc r) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne hr)),
    Pipeline.withArrays_of_ne _ c (V0 m c) _ r hw]

/-! ## The body's branch conditions -/

/-- The condition under which the body clears the accumulator and starts the first two copies. -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition under which the body starts the copy two blocks ahead. -/
abbrev cond0_1 (i : grid0.Coords) : Prop := k0_cond2 i = 1#1
/-- It holds at the points before point 6 — decided over the grid. -/
theorem hcond0_1 : ∀ t : Fin cfg0.N, cond0_1 (grid0.coords t) ↔ t.val < 6 :=
  (by decide +kernel : ∀ t : Fin grid0.N, cond0_1 (grid0.coords t) ↔ t.val < 6)

/-- The condition under which the body stores the result. -/
abbrev cond0_2 (i : grid0.Coords) : Prop := k0_cond3 i = 1#1
/-- It holds at the last point only — by arithmetic of the point. -/
theorem hcond0_2 : ∀ t : Fin cfg0.N, cond0_2 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_2, k0_cond3, e0]
    word_cmp
   : ∀ t : Fin grid0.N, cond0_2 (grid0.coords t) ↔ t.val % 8 = 7)

/-! ## Where the windows are idle -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The buffers the body is called with -/

/-- Each window's current staging memref at point `t`, spelled as the pipeline passes it (`bodyAt0`), and its wholeness. -/
abbrev ms0_0 (t : Fin cfg0.N) : Memref sig .tc .vmem S1x1x2048 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x32 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x32 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x64 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S3x2048x1024 .f32 := Memref.whole cc0_scratch0
abbrev scM0_1 : Memref sig .tc .vmem S512x65 .f32 := Memref.whole cc0_scratch2
/-- The operands left in HBM that the body copies into scratch itself, whole. -/
abbrev hbM0_0 : Memref sig .tc .hbm S16384x1024 .f32 := Memref.whole main_arg0
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell: none is a window's. -/
abbrev osem0 : Fin 3 → SemLoc sig := fun j => (![SemLoc.dma 7, SemLoc.dma 8, SemLoc.dma 9] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2] (by decide) (by decide)]; rfl
/-- The HBM operands the body moves: none is a window's array. -/
def H0 : Finset (Ref sig .tc) := {main_arg0}
theorem H0_sub : H0 ⊆ Pipeline.restRefs sig spec0 := by decide
/-- The lines after the region touch none of the operands the body moves. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0) ∗ iprop(hbPt0 c hbM0_0 (V m c main_arg0))) := by
  rw [Pipeline.ΦD_eq, scopedRest0_eq, ownSems00_eq, hbmPts0_eq]; simp only [scM0_0, scM0_1, owns_whole]; try rfl

/-! ## The ring: `x` streamed through the three slots of its scratch, two blocks ahead, in 8 steps -/

instance : NeZero grid0.N := ⟨by rw [N_0]; decide⟩
theorem inb_slot0_0 (s : Fin 3) : ∀ a, (![s.val, 0, 0] : Fin 3 → Nat) a + S1x2048x1024.size a ≤ S3x2048x1024.size a := by
  have := s.isLt; intro a; fin_cases a <;> simp <;> omega
theorem inb_src0_0 (b : Fin 8) : ∀ a, (![2048 * b.val, 0] : Fin 2 → Nat) a + S2048x1024.size a ≤ S16384x1024.size a := by
  have := b.isLt; intro a; fin_cases a <;> simp <;> omega
theorem inb_cell0_0 (s : Fin 3) : ∀ a, (![s.val] : Fin 1 → Nat) a + S1.size a ≤ S3.size a := by
  have := s.isLt; intro a; fin_cases a <;> simp <;> omega
/-- Slot `s` of the ring, spelt as the body's transfers spell their destination, at offsets in `s`. -/
def rslot0_0 (s : Fin 3) : Memref sig .tc .vmem S2048x1024 .f32 :=
  (scM0_0.slice (Rect.unit (s := S3x2048x1024) ![s.val, 0, 0] S1x2048x1024.size (inb_slot0_0 s)) (fun _ => rfl)).squeeze S2048x1024 squeezes_S1x2048x1024_S2048x1024
/-- Block `b` of the operand (the block step `b` waits), spelt as the transfers spell their source, at offsets in `b`. -/
def srcB0_0 (b : Fin 8) : Memref sig .tc .hbm S2048x1024 .f32 :=
  hbM0_0.slice (Rect.unit (s := S16384x1024) ![2048 * b.val, 0] S2048x1024.size (inb_src0_0 b)) (fun _ => rfl)
/-- Cell `s` of `cc0_scratch1`, spelt as the body spells a cell. -/
def cellA0_0 (s : Fin 3) : DmaSems sig S_ := (cc0_scratch1.slice (Rect.unit (s := S3) ![s.val] S1.size (inb_cell0_0 s))).squeeze S_ squeezes_S1_S_
abbrev cellR0_0 (s : Fin 3) : SemLoc sig := SemLoc.dma (cellA0_0 s).sem
theorem cellR0_0_0 : cellR0_0 0 = SemLoc.dma 7 := by decide
theorem cellR0_0_1 : cellR0_0 1 = SemLoc.dma 8 := by decide
theorem cellR0_0_2 : cellR0_0 2 = SemLoc.dma 9 := by decide

section Ring0_0
variable (c : Dev nD) (W : HbBuf0 (F := F) c hbM0_0)
/-- The operand is lent by share, one read-share copy of it per slot (the full share halved, the right half halved again):
    whatever blocks the transfers in flight stream — the same one twice, ones that overlap —, each borrows from its own slot's copy. -/
abbrev qs0_0 (s : Fin 3) : PosShare TreeShare := if s.val = 0 then fullShare.left else if s.val = 1 then fullShare.right.left else fullShare.right.right
/-- The families the ring is stated over: slot `s` held at `f`; cell `s` at zero; block `b`'s elements of slot `s`'s copy of the
    operand (what a transfer into slot `s` lends), the rest of that copy, and the copy whole; slot `s`'s contents once block `b`
    landed in it whole over `f`; the flight of block `b` into slot `s`, delivering the slot landed
    and the lent elements back. -/
abbrev slotP0_0 (s : Fin 3) (f : HbBuf0 (F := F) c (rslot0_0 s)) : sProp 𝕄 := (rslot0_0 s).view.loc (c : Thread nD τ) ↦[(rslot0_0 s).view.set]{fullShare} f
abbrev cellP0_0 (s : Fin 3) : sProp 𝕄 := semVal ((c : Thread nD τ), cellR0_0 s) 0
abbrev srcP0_0 (s : Fin 3) (b : Fin 8) : sProp 𝕄 := (srcB0_0 b).view.loc (c : Thread nD τ) ↦[(srcB0_0 b).view.set]{qs0_0 s} W
/-- The rest of slot `s`'s copy of the operand, once block `b` is lent. -/
def restP0_0 (s : Fin 3) (b : Fin 8) : sProp 𝕄 := ((c : Thread nD τ).loc main_arg0) ↦[Finset.univ \ (srcB0_0 b).view.set]{qs0_0 s} W
abbrev wholeP0_0 (s : Fin 3) : sProp 𝕄 := ((c : Thread nD τ).loc main_arg0) ↦[Finset.univ]{qs0_0 s} W
abbrev landed0_0 (s : Fin 3) (b : Fin 8) (f : HbBuf0 (F := F) c (rslot0_0 s)) : HbBuf0 (F := F) c (rslot0_0 s) :=
  (rslot0_0 s).view.writes (Elt F) f [⟨Rect.whole S2048x1024, ReadAs.same.apply ((srcB0_0 b).view.read (Elt F) W)⟩]
abbrev flightP0_0 (s : Fin 3) (b : Fin 8) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- What a slot and a flight hold: a slot not in flight carries its copy of the operand whole; a flight, the
    rest of the copy it borrowed from. No block is held apart: the `home` family is `emp`. -/
abbrev slotW0_0 (s : Fin 3) (f : HbBuf0 (F := F) c (rslot0_0 s)) : sProp 𝕄 := iprop(slotP0_0 c s f ∗ wholeP0_0 c W s)
abbrev flightW0_0 (s : Fin 3) (b : Fin 8) (f : HbBuf0 (F := F) c (rslot0_0 s)) : sProp 𝕄 := iprop(flightP0_0 c W s b f ∗ restP0_0 c W s b)
abbrev noHome0_0 (b : Fin 8) : sProp 𝕄 := iprop(emp)
/-- The ring before its step `k`: every slot free before the first; from then on blocks `k` and `k + 1` in
    flight into slots `k` and `k + 1` (while they exist), slot `k + 2` free; a waited block is read within its step and not kept. -/
def ringAt0_0 (k : ℕ) : sProp 𝕄 :=
  if k = 0 then Ring.At₀ (cellP0_0 c) (slotW0_0 c W) noHome0_0
  else Ring.At 2 (cellP0_0 c) (slotW0_0 c W) noHome0_0 (flightW0_0 c W) k
omit [FloatOps F] in
theorem cellP0_0_0 : cellP0_0 (F := F) c 0 = semVal ((c : Thread nD τ), SemLoc.dma 7) 0 := congrArg (fun x => (semVal ((c : Thread nD τ), x) 0 : sProp 𝕄)) cellR0_0_0
omit [FloatOps F] in
theorem cellP0_0_1 : cellP0_0 (F := F) c 1 = semVal ((c : Thread nD τ), SemLoc.dma 8) 0 := congrArg (fun x => (semVal ((c : Thread nD τ), x) 0 : sProp 𝕄)) cellR0_0_1
omit [FloatOps F] in
theorem cellP0_0_2 : cellP0_0 (F := F) c 2 = semVal ((c : Thread nD τ), SemLoc.dma 9) 0 := congrArg (fun x => (semVal ((c : Thread nD τ), x) 0 : sProp 𝕄)) cellR0_0_2
end Ring0_0

/-! ### The slots, disjoint and covering the scratch -/

abbrev slotSet0_0 (s : Fin 3) : Finset S3x2048x1024.Idx := (Rect.unit (s := S3x2048x1024) ![s.val, 0, 0] S1x2048x1024.size (inb_slot0_0 s)).set
theorem slotSet0_0_eq (s : Fin 3) : (rslot0_0 s).view.set = slotSet0_0 s := by
  simp only [rslot0_0, Memref.view_squeeze, View.set_reshape]; exact View.set_slice_whole _ _
theorem slots0_0_disjoint (s s' : Fin 3) (h : s ≠ s') : Disjoint (slotSet0_0 s) (slotSet0_0 s') :=
  Ring.lead_disjoint (s := S3x2048x1024) (0 : Fin 3) 1 (fun s : Fin 3 => (![s.val, 0, 0] : Fin 3 → Nat)) S1x2048x1024.size inb_slot0_0 (fun s => by simp) rfl s s' h
theorem slots0_0_cover : Finset.univ.biUnion slotSet0_0 = Finset.univ :=
  Ring.lead_cover (s := S3x2048x1024) (0 : Fin 3) 1 (fun s : Fin 3 => (![s.val, 0, 0] : Fin 3 → Nat)) S1x2048x1024.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 3) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 3) (b : Fin 8) : wholeP0_0 (F := F) c W s ⊣⊢ iprop(srcP0_0 c W s b ∗ restP0_0 c W s b) := by
  unfold restP0_0; exact pointsTo_split_subset (Finset.subset_univ _)
/-- the operand whole at the full share is the three copies (halves, the right one halved again). -/
theorem whole0_0_split : (hbPt0 c hbM0_0 W : sProp 𝕄) ⊣⊢ iprop(wholeP0_0 c W 0 ∗ wholeP0_0 c W 1 ∗ wholeP0_0 c W 2) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ (∃ f, slotP0_0 (F := F) c 1 f) ∗ ∃ f, slotP0_0 (F := F) c 2 f) : sProp 𝕄) := by
  simp only [scM0_0, owns_whole]
  exact Ring.slots3_split (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
set_option maxHeartbeats 1000000 in
theorem slots0_0_out : (iprop((∃ f, slotP0_0 (F := F) c 0 f) ∗ (∃ f, slotP0_0 (F := F) c 1 f) ∗ ∃ f, slotP0_0 (F := F) c 2 f) : sProp 𝕄) ⊢ iprop(∃ d, owns (c : Thread nD τ) scM0_0 fullShare d) := by
  simp only [scM0_0, owns_whole]
  exact Ring.slots3_join (U := Pipeline.UD sig nD τ) (ℓ := (c : Thread nD τ).loc cc0_scratch0) (q := fullShare) slotSet0_0 slots0_0_disjoint slots0_0_cover
    (slotP0_0 c 0) (slotP0_0 c 1) (slotP0_0 c 2) (slotP0_0_eq c 0) (slotP0_0_eq c 1) (slotP0_0_eq c 2)
end InOut0_0

/-- Into the ring: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0))
      ⊢ ringAt0_0 c (V m c main_arg0) 0 := by
  unfold ringAt0_0; rw [if_pos rfl]; unfold Ring.At₀
  rw [Ring.bigSep_fin3]
  simp only [Ring.free, cellP0_0_0, cellP0_0_1, cellP0_0_2]
  iintro ⟨HS, Hc, HW⟩
  iapply Ring.with_homes₀
  icases Hc with ⟨H0, H1, H2⟩
  ihave HS' := (slots0_0_in (F := F) c) $$ HS
  icases HS' with ⟨⟨%d0, HS0⟩, ⟨%d1, HS1⟩, ⟨%d2, HS2⟩⟩
  ihave HW' := (whole0_0_split (F := F) c (V m c main_arg0)).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- Out of the ring: after the last step (every slot kept or free: the kept blocks forgotten) those pieces again. -/
theorem ring0_0_out (c : Dev nD) :
    ringAt0_0 c (V m c main_arg0) 8
      ⊢ iprop((∃ d, owns (c : Thread nD τ) scM0_0 fullShare d) ∗ (semVal ((c : Thread nD τ), SemLoc.dma 7) 0 ∗ semVal ((c : Thread nD τ), SemLoc.dma 8) 0 ∗ semVal ((c : Thread nD τ), SemLoc.dma 9) 0) ∗ hbPt0 c hbM0_0 (V m c main_arg0)) := by
  unfold ringAt0_0; rw [if_neg (by decide)]
  iintro H
  ihave H' := (Ring.free3_of_At_last _ _ _ _) $$ H
  simp only [Ring.free, cellP0_0_0, cellP0_0_1, cellP0_0_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots0_0_out (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (whole0_0_split (F := F) c (V m c main_arg0)).2; isplitl [HW0]; · iexact HW0
    isplitl [HW1]; · iexact HW1
    iexact HW2

/-! ### The ring's step at each kind of point, and the body's operands at point `t` as the ring's slots, blocks and cells -/

section Canon0_0
omit [FloatOps F]
/-- At the first point the ring takes its first step. -/
theorem rstep0_0_A : ∀ t : Fin grid0.N, cond0_0 (grid0.coords t) → cond0_1 (grid0.coords t) → ¬cond0_2 (grid0.coords t) → t.val = 0 ∧ (t.val + 1) = 1 := by decide +kernel
/-- At a later point with a block still to start the ring takes a step, a block still to start. -/
theorem rstep0_0_B : ∀ t : Fin grid0.N, ¬cond0_0 (grid0.coords t) → cond0_1 (grid0.coords t) → ¬cond0_2 (grid0.coords t) → 1 ≤ t.val ∧ t.val + 2 < 8 ∧ (t.val + 1) = t.val + 1 := by decide +kernel
/-- At the last point but one the ring takes a step, no block left to start. -/
theorem rstep0_0_C : ∀ t : Fin grid0.N, ¬cond0_0 (grid0.coords t) → ¬cond0_1 (grid0.coords t) → ¬cond0_2 (grid0.coords t) → 1 ≤ t.val ∧ 8 ≤ t.val + 2 ∧ t.val < 8 ∧ (t.val + 1) = t.val + 1 := by decide +kernel
/-- At the last point the ring takes its last step. -/
theorem rstep0_0_D : ∀ t : Fin grid0.N, ¬cond0_0 (grid0.coords t) → ¬cond0_1 (grid0.coords t) → cond0_2 (grid0.coords t) → 1 ≤ t.val ∧ 8 ≤ t.val + 2 ∧ t.val < 8 ∧ (t.val + 1) = t.val + 1 := by decide +kernel
set_option synthInstance.maxSize 4096 in
theorem coff0_0_1 : ∀ t : Fin grid0.N, cond0_0 (grid0.coords t) → cond0_1 (grid0.coords t) → ¬cond0_2 (grid0.coords t) → (![0, 0, 0] : Fin 3 → Nat) = ![(Ring.sl 3 t.val).val, 0, 0] := by decide +kernel
@[sl_canon] theorem canon0_0_1 (t : Fin grid0.N) (h0 : cond0_0 (grid0.coords t)) (h1 : cond0_1 (grid0.coords t)) (h2 : ¬cond0_2 (grid0.coords t)) :
    (scM0_0.slice (Rect.unit (s := S3x2048x1024) ![0, 0, 0] S1x2048x1024.size inb_S3x2048x1024_S1x2048x1024_0_0_0) (fun _ => rfl)).squeeze S2048x1024 squeezes_S1x2048x1024_S2048x1024 = rslot0_0 (Ring.sl 3 t.val) :=
  congrArg (fun M : Memref sig .tc .vmem S1x2048x1024 .f32 => M.squeeze S2048x1024 squeezes_S1x2048x1024_S2048x1024) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → ¬cond0_2 (grid0.coords t) → (![0] : Fin 1 → Nat) = ![(Ring.sl 3 t.val).val] := by decide +kernel
@[sl_canon] theorem canon0_0_2 (t : Fin grid0.N) (h0 : cond0_0 (grid0.coords t)) (h1 : cond0_1 (grid0.coords t)) (h2 : ¬cond0_2 (grid0.coords t)) :
    (cc0_scratch1.slice (Rect.unit (s := S3) ![0] S1.size inb_S3_S1_0)).squeeze S_ squeezes_S1_S_ = cellA0_0 (Ring.sl 3 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → ¬cond0_2 (grid0.coords t) → (![0, 0] : Fin 2 → Nat) = ![2048 * (Ring.bk 8 t.val).val, 0] := by decide +kernel
@[sl_canon] theorem canon0_0_3 (t : Fin grid0.N) (h0 : cond0_0 (grid0.coords t)) (h1 : cond0_1 (grid0.coords t)) (h2 : ¬cond0_2 (grid0.coords t)) :
    hbM0_0.slice (Rect.unit (s := S16384x1024) ![0, 0] S2048x1024.size inb_S16384x1024_S2048x1024_0_0) (fun _ => rfl) = srcB0_0 (Ring.bk 8 t.val) :=
  congrArg (fun M : Memref sig .tc .hbm S2048x1024 .f32 => M) (Memref.slice_unit_congr _ (coff0_0_3 t h0 h1 h2) _ _ (fun _ => rfl) (fun _ => rfl))
set_option synthInstance.maxSize 4096 in
theorem coff0_0_4 : ∀ t : Fin grid0.N, cond0_0 (grid0.coords t) → cond0_1 (grid0.coords t) → ¬cond0_2 (grid0.coords t) → (![1, 0, 0] : Fin 3 → Nat) = ![(Ring.sl 3 (t.val + 1)).val, 0, 0] := by decide +kernel
@[sl_canon] theorem canon0_0_4 (t : Fin grid0.N) (h0 : cond0_0 (grid0.coords t)) (h1 : cond0_1 (grid0.coords t)) (h2 : ¬cond0_2 (grid0.coords t)) :
    (scM0_0.slice (Rect.unit (s := S3x2048x1024) ![1, 0, 0] S1x2048x1024.size inb_S3x2048x1024_S1x2048x1024_1_0_0) (fun _ => rfl)).squeeze S2048x1024 squeezes_S1x2048x1024_S2048x1024 = rslot0_0 (Ring.sl 3 (t.val + 1)) :=
  congrArg (fun M : Memref sig .tc .vmem S1x2048x1024 .f32 => M.squeeze S2048x1024 squeezes_S1x2048x1024_S2048x1024) (Memref.slice_unit_congr _ (coff0_0_4 t h0 h1 h2) _ _ (fun _ => rfl) (fun _ => rfl))
set_option synthInstance.maxSize 4096 in
theorem coff0_0_5 : ∀ t : Fin grid0.N, cond0_0 (grid0.coords t) → cond0_1 (grid0.coords t) → ¬cond0_2 (grid0.coords t) → (![1] : Fin 1 → Nat) = ![(Ring.sl 3 (t.val + 1)).val] := by decide +kernel
@[sl_canon] theorem canon0_0_5 (t : Fin grid0.N) (h0 : cond0_0 (grid0.coords t)) (h1 : cond0_1 (grid0.coords t)) (h2 : ¬cond0_2 (grid0.coords t)) :
    (cc0_scratch1.slice (Rect.unit (s := S3) ![1] S1.size inb_S3_S1_1)).squeeze S_ squeezes_S1_S_ = cellA0_0 (Ring.sl 3 (t.val + 1)) :=
  congrArg (fun A : DmaSems sig S1 => A.squeeze S_ squeezes_S1_S_) (SemArray.slice_unit_congr _ (coff0_0_5 t h0 h1 h2) _ _)
set_option synthInstance.maxSize 4096 in
theorem coff0_0_6 : ∀ t : Fin grid0.N, cond0_0 (grid0.coords t) → cond0_1 (grid0.coords t) → ¬cond0_2 (grid0.coords t) → (![2048, 0] : Fin 2 → Nat) = ![2048 * (Ring.bk 8 (t.val + 1)).val, 0] := by decide +kernel
@[sl_canon] theorem canon0_0_6 (t : Fin grid0.N) (h0 : cond0_0 (grid0.coords t)) (h1 : cond0_1 (grid0.coords t)) (h2 : ¬cond0_2 (grid0.coords t)) :
    hbM0_0.slice (Rect.unit (s := S16384x1024) ![2048, 0] S2048x1024.size inb_S16384x1024_S2048x1024_2048_0) (fun _ => rfl) = srcB0_0 (Ring.bk 8 (t.val + 1)) :=
  congrArg (fun M : Memref sig .tc .hbm S2048x1024 .f32 => M) (Memref.slice_unit_congr _ (coff0_0_6 t h0 h1 h2) _ _ (fun _ => rfl) (fun _ => rfl))
set_option synthInstance.maxSize 4096 in
theorem coff0_0_7 : ∀ t : Fin grid0.N, k0_off2 (grid0.coords t) = ![(Ring.sl 3 (t.val + 2)).val, 0, 0] := by decide +kernel
@[sl_canon] theorem canon0_0_7 (t : Fin grid0.N) (h1 : cond0_1 (grid0.coords t)) :
    (scM0_0.slice (Rect.unit (s := S3x2048x1024) (k0_off2 (grid0.coords t)) S1x2048x1024.size (k0_off2_inb (grid0.coords t) h1)) (fun _ => rfl)).squeeze S2048x1024 squeezes_S1x2048x1024_S2048x1024 = rslot0_0 (Ring.sl 3 (t.val + 2)) :=
  congrArg (fun M : Memref sig .tc .vmem S1x2048x1024 .f32 => M.squeeze S2048x1024 squeezes_S1x2048x1024_S2048x1024) (Memref.slice_unit_congr _ (coff0_0_7 t ) _ _ (fun _ => rfl) (fun _ => rfl))
set_option synthInstance.maxSize 4096 in
theorem coff0_0_8 : ∀ t : Fin grid0.N, k0_off1 (grid0.coords t) = ![(Ring.sl 3 (t.val + 2)).val] := by decide +kernel
@[sl_canon] theorem canon0_0_8 (t : Fin grid0.N) (h1 : cond0_1 (grid0.coords t)) :
    (cc0_scratch1.slice (Rect.unit (s := S3) (k0_off1 (grid0.coords t)) S1.size (k0_off1_inb (grid0.coords t) h1))).squeeze S_ squeezes_S1_S_ = cellA0_0 (Ring.sl 3 (t.val + 2)) :=
  congrArg (fun A : DmaSems sig S1 => A.squeeze S_ squeezes_S1_S_) (SemArray.slice_unit_congr _ (coff0_0_8 t ) _ _)
set_option synthInstance.maxSize 4096 in
theorem coff0_0_9 : ∀ t : Fin grid0.N, cond0_0 (grid0.coords t) → cond0_1 (grid0.coords t) → ¬cond0_2 (grid0.coords t) → k0_off3 (grid0.coords t) = ![2048 * (Ring.bk 8 (t.val + 2)).val, 0] := by decide +kernel
@[sl_canon] theorem canon0_0_9 (t : Fin grid0.N) (h0 : cond0_0 (grid0.coords t)) (h1 : cond0_1 (grid0.coords t)) (h2 : ¬cond0_2 (grid0.coords t)) :
    hbM0_0.slice (Rect.unit (s := S16384x1024) (k0_off3 (grid0.coords t)) S2048x1024.size (k0_off3_inb (grid0.coords t) h1)) (fun _ => rfl) = srcB0_0 (Ring.bk 8 (t.val + 2)) :=
  congrArg (fun M : Memref sig .tc .hbm S2048x1024 .f32 => M) (Memref.slice_unit_congr _ (coff0_0_9 t h0 h1 h2) _ _ (fun _ => rfl) (fun _ => rfl))
set_option synthInstance.maxSize 4096 in
theorem coff0_0_10 : ∀ t : Fin grid0.N, k0_off5 (grid0.coords t) = ![(Ring.sl 3 t.val).val, 0, 0] := by decide +kernel
@[sl_canon] theorem canon0_0_10 (t : Fin grid0.N) :
    (scM0_0.slice (Rect.unit (s := S3x2048x1024) (k0_off5 (grid0.coords t)) S1x2048x1024.size (k0_off5_inb (grid0.coords t))) (fun _ => rfl)).squeeze S2048x1024 squeezes_S1x2048x1024_S2048x1024 = rslot0_0 (Ring.sl 3 t.val) :=
  congrArg (fun M : Memref sig .tc .vmem S1x2048x1024 .f32 => M.squeeze S2048x1024 squeezes_S1x2048x1024_S2048x1024) (Memref.slice_unit_congr _ (coff0_0_10 t ) _ _ (fun _ => rfl) (fun _ => rfl))
set_option synthInstance.maxSize 4096 in
theorem coff0_0_11 : ∀ t : Fin grid0.N, k0_off4 (grid0.coords t) = ![(Ring.sl 3 t.val).val] := by decide +kernel
@[sl_canon] theorem canon0_0_11 (t : Fin grid0.N) :
    (cc0_scratch1.slice (Rect.unit (s := S3) (k0_off4 (grid0.coords t)) S1.size (k0_off4_inb (grid0.coords t)))).squeeze S_ squeezes_S1_S_ = cellA0_0 (Ring.sl 3 t.val) :=
  congrArg (fun A : DmaSems sig S1 => A.squeeze S_ squeezes_S1_S_) (SemArray.slice_unit_congr _ (coff0_0_11 t ) _ _)
set_option synthInstance.maxSize 4096 in
theorem coff0_0_12 : ∀ t : Fin grid0.N, ¬cond0_0 (grid0.coords t) → cond0_1 (grid0.coords t) → ¬cond0_2 (grid0.coords t) → k0_off3 (grid0.coords t) = ![2048 * (Ring.bk 8 (t.val + 2)).val, 0] := by decide +kernel
@[sl_canon] theorem canon0_0_12 (t : Fin grid0.N) (h0 : ¬cond0_0 (grid0.coords t)) (h1 : cond0_1 (grid0.coords t)) (h2 : ¬cond0_2 (grid0.coords t)) :
    hbM0_0.slice (Rect.unit (s := S16384x1024) (k0_off3 (grid0.coords t)) S2048x1024.size (k0_off3_inb (grid0.coords t) h1)) (fun _ => rfl) = srcB0_0 (Ring.bk 8 (t.val + 2)) :=
  congrArg (fun M : Memref sig .tc .hbm S2048x1024 .f32 => M) (Memref.slice_unit_congr _ (coff0_0_12 t h0 h1 h2) _ _ (fun _ => rfl) (fun _ => rfl))
set_option synthInstance.maxSize 4096 in
theorem coff0_0_13 : ∀ t : Fin grid0.N, k0_off7 (grid0.coords t) = ![(Ring.sl 3 t.val).val, 0, 0] := by decide +kernel
/-- The load of the slot that this step waited for starts where that slot does. -/
instance (priority := high) closedOff0_0_13 (t : Fin grid0.N) : ClosedOff (k0_off7 (grid0.coords t)) := ⟨![(Ring.sl 3 t.val).val, 0, 0], coff0_0_13 t⟩
end Canon0_0

end Cert.KernelIdeal.Own

end
-- ==== Proof.Run.Step.lean ====
/- What one grid point computes, and what a load of the ring's slot reads once the copy into it has landed. -/
module

public import proofs.«01_k».proof.Proof.Run.Setup
public import Idealize.ShloMosaic.Lib.VecWindow

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What one grid point computes -/

/-- Block `b` of the node features `W` (rows `2048·b` to `2048·b + 2047`), with a leading axis of size one:
    what the kernel loads from the ring slot its copy landed in. -/
def xwin {c : Dev nD} (W : HbBuf0 (F := F) c hbM0_0) (b : Fin 8) : Vec F S1x2048x1024 .f32 :=
  shapeCast S1x2048x1024 ((srcB0_0 b).view.read (Elt F) W) (by decide)

/-- The accumulator after a point, from the point's graph labels `x0`, its block `xb` of the node features, the
    two weight matrices and biases, and the accumulator `a` before it. -/
def stp (x0 : Vec F S1x1x2048 .i32) (xb : Vec F S1x2048x1024 .f32) (x1 : Vec F S1024x64 .f32) (x2 : Vec F S1x64 .f32)
    (x3 : Vec F S64x32 .f32) (x4 : Vec F S1x32 .f32) (a : Vec F S512x65 .f32) : Vec F S512x65 .f32 :=
  k0_pay1 (k0_pay7 (k0_pay4 x0) (k0_pay5 xb x1 x2) (k0_pay6 xb x1 x2 x3) x4 a)

/-- The values of `a` at the places a load's coordinates name. -/
def pick {s : Shape} {e : EltTy} (a : Vec F s e) (r : LoadRect s) : r.shape.Idx → Elt F e := fun j => a (r.idx j)

/-- The result from the finished accumulator: its first 64 columns over its last one. -/
def fin (a : Vec F S512x65 .f32) : Vec F S512x64 .f32 :=
  k0_pay2 (pick a (Rect.unit (s := S512x65) ![0, 0] S512x64.size inb_S512x65_S512x64_0_0).toLoadRect)
    (pick a (Rect.unit (s := S512x65) ![0, 64] S512x1.size inb_S512x65_S512x1_0_64).toLoadRect)

/-- `stp` at arguments known to be the ones it names. -/
theorem stp_of {x0 y0 : Vec F S1x1x2048 .i32} {xb yb : Vec F S1x2048x1024 .f32} {x1 y1 : Vec F S1024x64 .f32}
    {x2 y2 : Vec F S1x64 .f32} {x3 y3 : Vec F S64x32 .f32} {x4 y4 : Vec F S1x32 .f32} {a a' : Vec F S512x65 .f32}
    (h0 : y0 = x0) (hb : yb = xb) (h1 : y1 = x1) (h2 : y2 = x2) (h3 : y3 = x3) (h4 : y4 = x4) (ha : a' = a) :
    k0_pay1 (k0_pay7 (k0_pay4 y0) (k0_pay5 yb y1 y2) (k0_pay6 yb y1 y2 y3) y4 a') = stp x0 xb x1 x2 x3 x4 a := by
  subst h0 hb h1 h2 h3 h4 ha; rfl

/-- A load through a view whose contents read `a` picks from `a`. -/
theorem readAt_pick {sp : Space} {κ : Kind} {s : Shape} {e : EltTy} (v : View sig κ sp s e) (r : LoadRect s)
    (f : v.ty.Contents (Elt F)) (a : Vec F s e) (h : v.read (Elt F) f = a) : v.readAt (Elt F) r f = pick a r := by
  subst h; rfl

/-- A load of a point's ring slot, after a copy of `X` landed there whole, reads `X` under a leading axis of size one. -/
theorem slot_read' {c : Dev nD} (t : Fin cfg0.N) (X : Vec F S2048x1024 .f32)
    (f : HbBuf0 (F := F) c (rslot0_0 (Ring.sl 3 t.val))) (inb) :
    View.readAt (Elt F) scM0_0.view (Rect.unit (s := S3x2048x1024) (k0_off7 (grid0.coords t)) S1x2048x1024.size inb).toLoadRect
      ((rslot0_0 (Ring.sl 3 t.val)).view.writes (Elt F) f [⟨Rect.whole S2048x1024, X⟩])
      = shapeCast S1x2048x1024 X (by decide) := by
  funext j
  have hw := congrFun (View.read_writes_whole (Val := Elt F) (rslot0_0 (Ring.sl 3 t.val)).view f X)
    (Shape.reshapeEquiv (s := S2048x1024) (s' := S1x2048x1024) (by decide) j)
  refine Eq.trans ?_ hw
  have e : ∀ g : HbBuf0 (F := F) c (rslot0_0 (Ring.sl 3 t.val)), ∀ y, (rslot0_0 (Ring.sl 3 t.val)).view.read (Elt F) g y
      = scM0_0.view.read (Elt F) g ((Rect.unit (s := S3x2048x1024) ![(Ring.sl 3 t.val).val, 0, 0] S1x2048x1024.size (inb_slot0_0 _)).emb
        (Shape.reshapeEquiv (s := S1x2048x1024) (s' := S2048x1024) squeezes_S1x2048x1024_S2048x1024.numel_eq y)) := fun _ _ => rfl
  refine Eq.trans ?_ (e _ _).symm
  rw [Shape.reshapeEquiv_reshapeEquiv, Shape.reshapeEquiv_self]
  refine congrArg (View.read (Elt F) scM0_0.view _) (funext fun a => Fin.ext ?_)
  have ho := congrFun (coff0_0_13 t) a
  show k0_off7 (grid0.coords t) a + 1 * (j a).val = ![(Ring.sl 3 t.val).val, 0, 0] a + 1 * (j a).val
  rw [ho]

/-- The load of a point's ring slot, after its copy landed, reads the point's block of the node features. -/
theorem slot_read {c : Dev nD} (t : Fin cfg0.N) (W : HbBuf0 (F := F) c hbM0_0)
    (f : HbBuf0 (F := F) c (rslot0_0 (Ring.sl 3 t.val))) (inb) :
    View.readAt (Elt F) scM0_0.view (Rect.unit (s := S3x2048x1024) (k0_off7 (grid0.coords t)) S1x2048x1024.size inb).toLoadRect
      ((rslot0_0 (Ring.sl 3 t.val)).view.writes (Elt F) f
        [⟨Rect.whole S2048x1024, ReadAs.same.apply (View.read (Elt F) (srcB0_0 (Ring.bk 8 t.val)).view W)⟩])
      = xwin W (Ring.bk 8 t.val) := slot_read' t _ f inb

end Cert.KernelIdeal.Own

end
-- ==== Proof.Run.RunA.lean ====
/- The body's run at the first point. -/
module

public import proofs.«01_k».proof.Proof.Run.Step

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the first point: the accumulator, whatever it held, ends at the first step from zero; the inputs and the rest of the ring are handed back. -/
theorem kernelRun0_A (c : Dev nD) (t : Fin cfg0.N) (arg2 : Memref sig .tc .vmem S1x1x2048 .i32) (harg2 : arg2.IsWhole) (arg3 : Memref sig .tc .vmem S1024x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S512x64 .f32) (harg7 : arg7.IsWhole) (arg10 : Memref sig .tc .vmem S512x65 .f32) (harg10 : arg10.IsWhole) (hc0 : cond0_0 (grid0.coords t)) (hc1 : cond0_1 (grid0.coords t)) (hc2 : ¬cond0_2 (grid0.coords t))
    (x0 : Vec F S1x1x2048 .i32) (x1 : Vec F S1024x64 .f32) (x2 : Vec F S1x64 .f32) (x3 : Vec F S64x32 .f32) (x4 : Vec F S1x32 .f32) (x5 : Vec F S512x64 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg10 fullShare d) ∗ Ring.free (cellP0_0 c) (slotW0_0 c fh0) (Ring.sl 3 t.val) ∗ Ring.free (cellP0_0 c) (slotW0_0 c fh0) (Ring.sl 3 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (stp x0 (xwin fh0 (Ring.bk 8 t.val)) x1 x2 x3 x4 k0_pay3) ∗ Ring.inflight (flightW0_0 c fh0) (Ring.sl 3 (t.val + 1)) (Ring.bk 8 (t.val + 1)) ∗ Ring.inflight (flightW0_0 c fh0) (Ring.sl 3 (t.val + 2)) (Ring.bk 8 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 scM0_0 (Memref.isWhole_whole _) cc0_scratch1 arg10 harg10) K := by
    intro W K
    haveI : Fact (cond0_0 (grid0.coords t)) := ⟨hc0⟩
    haveI : Fact (cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton]
    have hcanon0 := canon0_0_1 t hc0 hc1 hc2
    have hcanon1 := canon0_0_2 t hc0 hc1 hc2
    have hcanon2 := canon0_0_3 t hc0 hc1 hc2
    have hcanon3 := canon0_0_4 t hc0 hc1 hc2
    have hcanon4 := canon0_0_5 t hc0 hc1 hc2
    have hcanon5 := canon0_0_6 t hc0 hc1 hc2
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds1, %fs1, -, HS1⟩, ⟨Hc0_0_0, ⟨%fs0_0_0, Hs0_0_0, Hw0_0_0⟩⟩, ⟨Hc0_0_1, ⟨%fs0_0_1, Hs0_0_1, Hw0_0_1⟩⟩, ⟨Hc0_0_2, ⟨%fs0_0_2, Hs0_0_2, Hw0_0_2⟩⟩, HW, Hk⟩
    ihave Hsp0_0_0 := (src0_0_split c fh0 (Ring.sl 3 t.val) (Ring.bk 8 t.val)).1 $$ Hw0_0_0
    icases Hsp0_0_0 with ⟨Hh0_0_0, Hr0_0_0⟩
    ihave Hsp0_0_1 := (src0_0_split c fh0 (Ring.sl 3 (t.val + 1)) (Ring.bk 8 (t.val + 1))).1 $$ Hw0_0_1
    icases Hsp0_0_1 with ⟨Hh0_0_1, Hr0_0_1⟩
    ihave Hsp0_0_2 := (src0_0_split c fh0 (Ring.sl 3 (t.val + 2)) (Ring.bk 8 (t.val + 2))).1 $$ Hw0_0_2
    icases Hsp0_0_2 with ⟨Hh0_0_2, Hr0_0_2⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact hf5
    isplitl [HS1]
    · iexists _; isplitr; swap; · iexact HS1
      ipureintro
      rw [View.read_writes_full]
      delta kernelRun0_A.sl.r_3
      delta kernelRun0_A.sl.r_2 kernelRun0_A.sl.r_1 kernelRun0_A.sl.r
      delta kernelRun0_A.sl.v18 kernelRun0_A.sl.v71
      delta kernelRun0_A.sl.HS1_1
      exact stp_of ((View.readAt_full _ _ _).trans (harg2.read_unread x0)) (slot_read t fh0 _ _)
        ((View.readAt_full _ _ _).trans (harg3.read_unread x1)) ((View.readAt_full _ _ _).trans (harg4.read_unread x2))
        ((View.readAt_full _ _ _).trans (harg5.read_unread x3)) ((View.readAt_full _ _ _).trans (harg6.read_unread x4))
        (View.readCov_full _ _ _ _ _)
    isplitl [Hc0_0_1 Hr0_0_1]
    · iexists _; isplitl [Hc0_0_1]; · iexact Hc0_0_1
      iexact Hr0_0_1
    isplitl [Hc0_0_2 Hr0_0_2]
    · iexists _; isplitl [Hc0_0_2]; · iexact Hc0_0_2
      iexact Hr0_0_2
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 3 t.val) (Ring.bk 8 t.val)).2; isplitl [Hh0_0_0]; · iexact Hh0_0_0
      iexact Hr0_0_0
    iexists _; iexact HW

end Cert.KernelIdeal.Own

end
-- ==== Proof.Run.RunB.lean ====
/- The body's run at a later point that starts a copy. -/
module

public import proofs.«01_k».proof.Proof.Run.RunA

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the points that also start a copy: the accumulator takes one step; the inputs and the rest of the ring are handed back. -/
theorem kernelRun0_B (c : Dev nD) (t : Fin cfg0.N) (arg2 : Memref sig .tc .vmem S1x1x2048 .i32) (harg2 : arg2.IsWhole) (arg3 : Memref sig .tc .vmem S1024x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S512x64 .f32) (harg7 : arg7.IsWhole) (arg10 : Memref sig .tc .vmem S512x65 .f32) (harg10 : arg10.IsWhole) (hc0 : ¬cond0_0 (grid0.coords t)) (hc1 : cond0_1 (grid0.coords t)) (hc2 : ¬cond0_2 (grid0.coords t))
    (x0 : Vec F S1x1x2048 .i32) (x1 : Vec F S1024x64 .f32) (x2 : Vec F S1x64 .f32) (x3 : Vec F S64x32 .f32) (x4 : Vec F S1x32 .f32) (acc : Vec F S512x65 .f32) (x5 : Vec F S512x64 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare acc ∗ Ring.inflight (flightW0_0 c fh0) (Ring.sl 3 t.val) (Ring.bk 8 t.val) ∗ Ring.inflight (flightW0_0 c fh0) (Ring.sl 3 (t.val + 1)) (Ring.bk 8 (t.val + 1)) ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (stp x0 (xwin fh0 (Ring.bk 8 t.val)) x1 x2 x3 x4 acc) ∗ Ring.inflight (flightW0_0 c fh0) (Ring.sl 3 (t.val + 1)) (Ring.bk 8 (t.val + 1)) ∗ Ring.inflight (flightW0_0 c fh0) (Ring.sl 3 (t.val + 2)) (Ring.bk 8 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 scM0_0 (Memref.isWhole_whole _) cc0_scratch1 arg10 harg10) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs1, %hfs1, HS1⟩, ⟨%ff0_0_0, Hf0_0_0, Hrf0_0_0⟩, ⟨%ff0_0_1, Hf0_0_1, Hrf0_0_1⟩, ⟨Hc0_0_2, ⟨%fs0_0_2, Hs0_0_2, Hw0_0_2⟩⟩, HW, Hk⟩
    ihave Hsp0_0_2 := (src0_0_split c fh0 (Ring.sl 3 (t.val + 2)) (Ring.bk 8 (t.val + 2))).1 $$ Hw0_0_2
    icases Hsp0_0_2 with ⟨Hh0_0_2, Hr0_0_2⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact hf5
    isplitl [HS1]
    · iexists _; isplitr; swap; · iexact HS1
      ipureintro
      rw [View.read_writes_full]
      delta kernelRun0_B.sl.r_3
      delta kernelRun0_B.sl.r_2 kernelRun0_B.sl.r_1 kernelRun0_B.sl.r
      delta kernelRun0_B.sl.v18
      exact stp_of ((View.readAt_full _ _ _).trans (harg2.read_unread x0)) (slot_read t fh0 _ _)
        ((View.readAt_full _ _ _).trans (harg3.read_unread x1)) ((View.readAt_full _ _ _).trans (harg4.read_unread x2))
        ((View.readAt_full _ _ _).trans (harg5.read_unread x3)) ((View.readAt_full _ _ _).trans (harg6.read_unread x4))
        ((View.readAt_full _ _ _).trans (harg10.read_unread acc))
    isplitl [Hf0_0_1 Hrf0_0_1]
    · iexists ff0_0_1; isplitl [Hf0_0_1]; · iexact Hf0_0_1
      iexact Hrf0_0_1
    isplitl [Hc0_0_2 Hr0_0_2]
    · iexists _; isplitl [Hc0_0_2]; · iexact Hc0_0_2
      iexact Hr0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 8 t.val)).2; isplitl [Hf0_0_0_src]; · iexact Hf0_0_0_src
      iexact Hrf0_0_0
    iexists _; iexact HW

end Cert.KernelIdeal.Own

end
-- ==== Proof.Run.RunC.lean ====
/- The body's run at the last point but one, which starts no copy. -/
module

public import proofs.«01_k».proof.Proof.Run.RunB

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the point that starts no copy and is not the last: the accumulator takes one step; the inputs and the rest of the ring are handed back. -/
theorem kernelRun0_C (c : Dev nD) (t : Fin cfg0.N) (arg2 : Memref sig .tc .vmem S1x1x2048 .i32) (harg2 : arg2.IsWhole) (arg3 : Memref sig .tc .vmem S1024x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S512x64 .f32) (harg7 : arg7.IsWhole) (arg10 : Memref sig .tc .vmem S512x65 .f32) (harg10 : arg10.IsWhole) (hc0 : ¬cond0_0 (grid0.coords t)) (hc1 : ¬cond0_1 (grid0.coords t)) (hc2 : ¬cond0_2 (grid0.coords t))
    (x0 : Vec F S1x1x2048 .i32) (x1 : Vec F S1024x64 .f32) (x2 : Vec F S1x64 .f32) (x3 : Vec F S64x32 .f32) (x4 : Vec F S1x32 .f32) (acc : Vec F S512x65 .f32) (x5 : Vec F S512x64 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare acc ∗ Ring.inflight (flightW0_0 c fh0) (Ring.sl 3 t.val) (Ring.bk 8 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (stp x0 (xwin fh0 (Ring.bk 8 t.val)) x1 x2 x3 x4 acc) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 scM0_0 (Memref.isWhole_whole _) cc0_scratch1 arg10 harg10) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0__body_eq_skeleton]; unfold cc0__body_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs1, %hfs1, HS1⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro; exact hf5
    isplitl [HS1]
    · iexists _; isplitr; swap; · iexact HS1
      ipureintro
      rw [View.read_writes_full]
      delta kernelRun0_C.sl.r_3
      delta kernelRun0_C.sl.r_2 kernelRun0_C.sl.r_1 kernelRun0_C.sl.r
      delta kernelRun0_C.sl.v18
      exact stp_of ((View.readAt_full _ _ _).trans (harg2.read_unread x0)) (slot_read t fh0 _ _)
        ((View.readAt_full _ _ _).trans (harg3.read_unread x1)) ((View.readAt_full _ _ _).trans (harg4.read_unread x2))
        ((View.readAt_full _ _ _).trans (harg5.read_unread x3)) ((View.readAt_full _ _ _).trans (harg6.read_unread x4))
        ((View.readAt_full _ _ _).trans (harg10.read_unread acc))
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 8 t.val)).2; isplitl [Hf0_0_0_src]; · iexact Hf0_0_0_src
      iexact Hrf0_0_0
    iexists _; iexact HW

end Cert.KernelIdeal.Own

end
-- ==== Proof.Run.RunD.lean ====
/- The body's run at the last point, which stores the result. -/
module

public import proofs.«01_k».proof.Proof.Run.RunC

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body's run at the last point: the accumulator takes one step and the result is stored from it; the inputs and the rest of the ring are handed back. -/
theorem kernelRun0_D (c : Dev nD) (t : Fin cfg0.N) (arg2 : Memref sig .tc .vmem S1x1x2048 .i32) (harg2 : arg2.IsWhole) (arg3 : Memref sig .tc .vmem S1024x64 .f32) (harg3 : arg3.IsWhole) (arg4 : Memref sig .tc .vmem S1x64 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S512x64 .f32) (harg7 : arg7.IsWhole) (arg10 : Memref sig .tc .vmem S512x65 .f32) (harg10 : arg10.IsWhole) (hc0 : ¬cond0_0 (grid0.coords t)) (hc1 : ¬cond0_1 (grid0.coords t)) (hc2 : cond0_2 (grid0.coords t))
    (x0 : Vec F S1x1x2048 .i32) (x1 : Vec F S1024x64 .f32) (x2 : Vec F S1x64 .f32) (x3 : Vec F S64x32 .f32) (x4 : Vec F S1x32 .f32) (acc : Vec F S512x65 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg10 fullShare acc ∗ Ring.inflight (flightW0_0 c fh0) (Ring.sl 3 t.val) (Ring.bk 8 t.val) ∗ Ring.slotAt 2 (cellP0_0 c) (slotW0_0 c fh0) (flightW0_0 c fh0) t.val 1 ∗ Ring.free (cellP0_0 c) (slotW0_0 c fh0) (Ring.sl 3 (t.val + 2)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (fin (stp x0 (xwin fh0 (Ring.bk 8 t.val)) x1 x2 x3 x4 acc)) ∗ owns (c : Thread nD τ) arg10 fullShare (stp x0 (xwin fh0 (Ring.bk 8 t.val)) x1 x2 x3 x4 acc) ∗ Ring.slotAt 2 (cellP0_0 c) (slotW0_0 c fh0) (flightW0_0 c fh0) t.val 1 ∗ Ring.free (cellP0_0 c) (slotW0_0 c fh0) (Ring.sl 3 (t.val + 2)) ∗ Ring.free (cellP0_0 c) (slotW0_0 c fh0) (Ring.sl 3 t.val) ∗ (∃ W', owes (c : Thread nD τ) 0 W')) -∗ K ⟨⟩))
          ⊢ wp frame (wpE (defs₀ (F := F)) Variants.none c none) Set.univ (cc0__body (grid0.coords t) (Memref.whole main_arg0) (Memref.isWhole_whole _) arg2 harg2 arg3 harg3 arg4 harg4 arg5 harg5 arg6 harg6 arg7 harg7 scM0_0 (Memref.isWhole_whole _) cc0_scratch1 arg10 harg10) K := by
    intro W K
    haveI : Fact (¬cond0_0 (grid0.coords t)) := ⟨hc0⟩
    haveI : Fact (¬cond0_1 (grid0.coords t)) := ⟨hc1⟩
    haveI : Fact (cond0_2 (grid0.coords t)) := ⟨hc2⟩
    simp only [cc0__body_eq_skeleton]; unfold cc0__body_skel
    simp only [k0_part1_eq_skeleton, k0_part2_eq_skeleton]
    unfold owns Ring.free Ring.inflight
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs1, %hfs1, HS1⟩, ⟨%ff0_0_0, Hf0_0_0, Hrf0_0_0⟩, Hro0_0_1, ⟨Hc0_0_2, ⟨%fs0_0_2, Hs0_0_2, Hw0_0_2⟩⟩, HW, Hk⟩
    obtain rfl := harg2.eq_unread hf0; obtain rfl := harg3.eq_unread hf1; obtain rfl := harg4.eq_unread hf2; obtain rfl := harg5.eq_unread hf3; obtain rfl := harg6.eq_unread hf4; obtain rfl := harg10.eq_unread hfs1
    sl_exec (disch := first | sl_exact hc0 | sl_exact hc1 | sl_exact hc2)
    sl_step
    have hnew : ∀ f, View.read (Elt F) arg10.view (arg10.view.writes (Elt F) f (kernelRun0_D.sl.HS1_1 c t arg2 harg2 arg3 harg3 arg4 harg4 arg5 harg5 arg6 harg6 arg10 harg10 x0 x1 x2 x3 x4 acc fh0)) = stp x0 (xwin fh0 (Ring.bk 8 t.val)) x1 x2 x3 x4 acc := by
      intro f
      delta kernelRun0_D.sl.HS1_1
      rw [View.read_writes_full]
      delta kernelRun0_D.sl.r_3
      delta kernelRun0_D.sl.r_2 kernelRun0_D.sl.r_1 kernelRun0_D.sl.r
      delta kernelRun0_D.sl.v18
      exact stp_of ((View.readAt_full _ _ _).trans (harg2.read_unread x0)) (slot_read t fh0 _ _)
        ((View.readAt_full _ _ _).trans (harg3.read_unread x1)) ((View.readAt_full _ _ _).trans (harg4.read_unread x2))
        ((View.readAt_full _ _ _).trans (harg5.read_unread x3)) ((View.readAt_full _ _ _).trans (harg6.read_unread x4))
        ((View.readAt_full _ _ _).trans (harg10.read_unread acc))
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      rw [View.read_writes_full]
      unfold fin
      delta kernelRun0_D.sl.v80 kernelRun0_D.sl.v81
      unfold View.readCov
      rw [readAt_pick _ _ _ _ (hnew _), readAt_pick _ _ _ _ (hnew _)]
    isplitl [HS1]
    · iexists _; isplitr; swap; · iexact HS1
      ipureintro
      exact hnew _
    isplitl [Hro0_0_1]; · iexact Hro0_0_1
    isplitl [Hc0_0_2 Hs0_0_2 Hw0_0_2]
    · isplitl [Hc0_0_2]; · iexact Hc0_0_2
      iexists _; isplitl [Hs0_0_2]; · iexact Hs0_0_2
      iexact Hw0_0_2
    isplitl [Hf0_0_0 Hf0_0_0_dst Hf0_0_0_src Hrf0_0_0]
    · isplitl [Hf0_0_0]; · iexact Hf0_0_0
      iexists _; isplitl [Hf0_0_0_dst]; · iexact Hf0_0_0_dst
      iapply (src0_0_split c fh0 (Ring.sl 3 t.val) (Ring.bk 8 t.val)).2; isplitl [Hf0_0_0_src]; · iexact Hf0_0_0_src
      iexact Hrf0_0_0
    iexists _; iexact HW

end Cert.KernelIdeal.Own

end
-- ==== Proof.Run.Frame.lean ====
/- The kernel's launch: the accumulator from point to point, the body at every point, and what every run ends with. -/
module

public import proofs.«01_k».proof.Proof.Run.RunD

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The accumulator from point to point, and the pipeline's proof data -/

/-- The accumulator before point `k` (from the second point on; zeros stand for it at the first). -/
def accAt (c : Dev nD) : ℕ → Vec F S512x65 .f32
  | 0 => k0_pay3
  | k + 1 => if h : k < cfg0.N then
      stp (iblk m c 0 ⟨k, h⟩) (xwin (c := c) (V m c main_arg0) (Ring.bk 8 k)) (iblk m c 1 ⟨k, h⟩) (iblk m c 2 ⟨k, h⟩)
        (iblk m c 3 ⟨k, h⟩) (iblk m c 4 ⟨k, h⟩) (accAt c k)
    else accAt c k

/-- One step of the accumulator. -/
theorem accAt_succ (c : Dev nD) (t : Fin cfg0.N) : accAt m c (t.val + 1) =
    stp (iblk m c 0 t) (xwin (c := c) (V m c main_arg0) (Ring.bk 8 t.val)) (iblk m c 1 t) (iblk m c 2 t)
      (iblk m c 3 t) (iblk m c 4 t) (accAt m c t.val) := by
  rw [accAt, dif_pos t.isLt]

/-- The accumulator's scratch before point `k`: at anything before the first point, at `accAt` after. -/
def scr (c : Dev nD) (k : ℕ) : sProp 𝕄 :=
  if k = 0 then iprop(∃ d, owns (c : Thread nD τ) scM0_1 fullShare d) else owns (c : Thread nD τ) scM0_1 fullShare (accAt m c k)

/-- The region invariant before point `k`: the accumulator's scratch, the generator register at some state, and the
    ring of copies before point `k`. -/
def PhiR (c : Dev nD) (k : ℕ) : sProp 𝕄 :=
  iprop(scr m c k ∗ (∃ r, prngReg c r) ∗ ringAt0_0 c (V m c main_arg0) k)

/-- The proof data of the one pipeline on core `c`: each input's buffer stays at its block, the output's is at the
    result of the accumulator after the point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => fin (accAt m c (t.val + 1))
  Φ t := PhiR m c t.val
  q _ := fullShare
  owed _ := 0

theorem A_eq (c : Dev nD) (w : Fin cfg0.W) : (dats m 0 c).A w = V m c (Pipeline.arrRef spec0 w) := by
  dsimp only [dats]
theorem PhiR_castSucc (c : Dev nD) (t : Fin cfg0.N) : (dats m 0 c).Φ t.castSucc = PhiR m c t.val := by
  dsimp only [dats]; simp only [Fin.coe_castSucc]
theorem PhiR_succ (c : Dev nD) (t : Fin cfg0.N) : (dats m 0 c).Φ t.succ = PhiR m c (t.val + 1) := by
  dsimp only [dats]; simp only [Fin.val_succ]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  (dats m 0 c).before_in_eq_fetched 0 rfl (fun _ => rfl) (fun _ _ _ => rfl) (fun _ => rfl) t d
theorem leaves0_0 (c : Dev nD) (t : Fin cfg0.N) :
    (dats m 0 c).leavesExact 0 t = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  (dats m 0 c).before_in_eq_fetched 1 rfl (fun _ => rfl) (fun _ _ _ => rfl) (fun _ => rfl) t d
theorem leaves0_1 (c : Dev nD) (t : Fin cfg0.N) :
    (dats m 0 c).leavesExact 1 t = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  (dats m 0 c).before_in_eq_fetched 2 rfl (fun _ => rfl) (fun _ _ _ => rfl) (fun _ => rfl) t d
theorem leaves0_2 (c : Dev nD) (t : Fin cfg0.N) :
    (dats m 0 c).leavesExact 2 t = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  (dats m 0 c).before_in_eq_fetched 3 rfl (fun _ => rfl) (fun _ _ _ => rfl) (fun _ => rfl) t d
theorem leaves0_3 (c : Dev nD) (t : Fin cfg0.N) :
    (dats m 0 c).leavesExact 3 t = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  (dats m 0 c).before_in_eq_fetched 4 rfl (fun _ => rfl) (fun _ _ _ => rfl) (fun _ => rfl) t d
theorem leaves0_4 (c : Dev nD) (t : Fin cfg0.N) :
    (dats m 0 c).leavesExact 4 t = owns (c : Thread nD τ) (ms0_4 t) fullShare (iblk m c 4 t) := by
  unfold Dat.leavesExact; rw [liveAt0_4 t, after0_4]
theorem after0_5 (c : Dev nD) (t : Fin cfg0.N) : (dats m 0 c).after 5 t = fin (accAt m c (t.val + 1)) := by dsimp only [dats]

/-- Before the last point nothing is stored to the output's buffer, -/
theorem idle0_5 : ∀ t : Fin grid0.N, t.val % 8 ≠ 7 → idle0 5 (grid0.coords t) = true := by decide +kernel
/-- at the last point the result is. -/
theorem live0_5 : ∀ t : Fin grid0.N, t.val % 8 = 7 → idle0 5 (grid0.coords t) = false := by decide +kernel

theorem leaves0_5_idle (c : Dev nD) (t : Fin cfg0.N) (h : t.val % 8 ≠ 7) : (dats m 0 c).leavesExact 5 t
    = iprop(∃ d, owns (c : Thread nD τ) (ms0_5 t) fullShare ((dats m 0 c).before 5 t d)) :=
  Dat.leavesExact_idle _ 5 t (idle0_5 t h) (Bool.eq_false_iff.mpr fun e => h ((flush0_5 t).mp e))
theorem leaves0_5_live (c : Dev nD) (t : Fin cfg0.N) (h : t.val % 8 = 7) : (dats m 0 c).leavesExact 5 t
    = owns (c : Thread nD τ) (ms0_5 t) fullShare (fin (accAt m c (t.val + 1))) := by
  unfold Dat.leavesExact; rw [show cfg0.idle 5 (cfg0.grid.coords t) = false from live0_5 t h, after0_5]

/-! ## The body at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 1600000 in
/-- The body at the first point. -/
theorem sound_A (c : Dev nD) (t : Fin cfg0.N) (h0 : t.val % 8 = 0) (h1 : t.val < 6) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 scr
  have hN : t.val < 8 := lt_of_lt_of_eq t.isLt (show cfg0.N = 8 from N_0)
  rw [leaves0_0, leaves0_1, leaves0_2, leaves0_3, leaves0_4, leaves0_5_idle m c t h2]
  obtain ⟨hK00, hK10⟩ := rstep0_0_A t ((hcond0_0 t).mpr h0) ((hcond0_1 t).mpr h1) (fun h => h2 ((hcond0_2 t).mp h))
  rw [if_pos hK00, if_neg (show ¬t.val + 1 = 0 by omega)]
  rw [Ring.At₀_eq3' _ _ _ t.val hK00 (by decide : 3 ≤ 8), Ring.At3_one' _ _ _ _ t.val hK00 (by decide : 3 ≤ 8)]
  rw [if_pos hK00, if_neg (show ¬t.val + 1 = 0 by omega), accAt_succ m c t, show accAt m c t.val = k0_pay3 by rw [hK00]; rfl]
  iintro ⟨⟨HS1, Hg, ⟨-, Hfr0, Hfr1, Hfr2⟩⟩, ⟨%W, -, HW⟩, ⟨%d0, H0⟩, ⟨%d1, H1⟩, ⟨%d2, H2⟩, ⟨%d3, H3⟩, ⟨%d4, H4⟩, ⟨%d5, H5⟩⟩
  iapply ((kernelRun0_A c t _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) ((dats m 0 c).before 5 t d5) (V m c main_arg0)) W _)
  isplitl [H0]; · iexact H0
  isplitl [H1]; · iexact H1
  isplitl [H2]; · iexact H2
  isplitl [H3]; · iexact H3
  isplitl [H4]; · iexact H4
  isplitl [H5]; · iexact H5
  isplitl [HS1]; · iexact HS1
  isplitl [Hfr0]; · iexact Hfr0
  isplitl [Hfr1]; · iexact Hfr1
  isplitl [Hfr2]; · iexact Hfr2
  isplitl [HW]; · iexact HW
  iintro ⟨H0, H1, H2, H3, H4, H5, HS1, Hfa, Hfb, Hfc, ⟨%W', HW'⟩⟩
  isplitl [HS1 Hg Hfa Hfb Hfc]
  · isplitl [HS1]; · iexact HS1
    isplitl [Hg]; · iexact Hg
    iapply (Ring.with_homes (Idealize.SL.BI.Entails.refl _))
    isplitl [Hfa]; · iexact Hfa
    isplitl [Hfb]; · iexact Hfb
    iexact Hfc
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 1600000 in
/-- The body at a point that waits one copy and starts another. -/
theorem sound_B (c : Dev nD) (t : Fin cfg0.N) (h0 : ¬t.val % 8 = 0) (h1 : t.val < 6) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 scr
  have hN : t.val < 8 := lt_of_lt_of_eq t.isLt (show cfg0.N = 8 from N_0)
  rw [leaves0_0, leaves0_1, leaves0_2, leaves0_3, leaves0_4, leaves0_5_idle m c t h2]
  obtain ⟨hK10, hKB0, hKs0⟩ := rstep0_0_B t (fun h => h0 ((hcond0_0 t).mp h)) ((hcond0_1 t).mpr h1) (fun h => h2 ((hcond0_2 t).mp h))
  rw [if_neg (show ¬t.val = 0 by omega), if_neg (show ¬t.val + 1 = 0 by omega)]
  rw [Ring.At3_here _ _ _ _ t.val hKB0, Ring.At3_next _ _ _ _ t.val hKB0, Ring.slotAt3_next0 _ _ _ t.val (by omega), Ring.slotAt3_next1 _ _ _ t.val hKB0]
  rw [if_neg (show ¬t.val = 0 by omega), if_neg (show ¬t.val + 1 = 0 by omega), accAt_succ m c t]
  iintro ⟨⟨HS1, Hg, ⟨-, Hfr0, Hfr1, Hfr2⟩⟩, ⟨%W, -, HW⟩, ⟨%d0, H0⟩, ⟨%d1, H1⟩, ⟨%d2, H2⟩, ⟨%d3, H3⟩, ⟨%d4, H4⟩, ⟨%d5, H5⟩⟩
  iapply ((kernelRun0_B c t _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (accAt m c t.val) ((dats m 0 c).before 5 t d5) (V m c main_arg0)) W _)
  isplitl [H0]; · iexact H0
  isplitl [H1]; · iexact H1
  isplitl [H2]; · iexact H2
  isplitl [H3]; · iexact H3
  isplitl [H4]; · iexact H4
  isplitl [H5]; · iexact H5
  isplitl [HS1]; · iexact HS1
  isplitl [Hfr0]; · iexact Hfr0
  isplitl [Hfr1]; · iexact Hfr1
  isplitl [Hfr2]; · iexact Hfr2
  isplitl [HW]; · iexact HW
  iintro ⟨H0, H1, H2, H3, H4, H5, HS1, Hfa, Hfb, Hfc, ⟨%W', HW'⟩⟩
  isplitl [HS1 Hg Hfa Hfb Hfc]
  · isplitl [HS1]; · iexact HS1
    isplitl [Hg]; · iexact Hg
    iapply (Ring.with_homes (Idealize.SL.BI.Entails.refl _))
    isplitl [Hfa]; · iexact Hfa
    isplitl [Hfb]; · iexact Hfb
    iexact Hfc
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 1600000 in
/-- The body at the point that starts no copy and is not the last. -/
theorem sound_C (c : Dev nD) (t : Fin cfg0.N) (h0 : ¬t.val % 8 = 0) (h1 : ¬t.val < 6) (h2 : ¬t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 scr
  have hN : t.val < 8 := lt_of_lt_of_eq t.isLt (show cfg0.N = 8 from N_0)
  rw [leaves0_0, leaves0_1, leaves0_2, leaves0_3, leaves0_4, leaves0_5_idle m c t h2]
  obtain ⟨hK10, hKB0, hKlt0, hKs0⟩ := rstep0_0_C t (fun h => h0 ((hcond0_0 t).mp h)) (fun h => h1 ((hcond0_1 t).mp h)) (fun h => h2 ((hcond0_2 t).mp h))
  rw [if_neg (show ¬t.val = 0 by omega), if_neg (show ¬t.val + 1 = 0 by omega)]
  rw [Ring.At3_here_tail _ _ _ _ t.val hKlt0, Ring.At3_next_tail _ _ _ _ t.val hKB0 hKlt0, Ring.slotAt3_tail_role _ _ _ t.val]
  rw [if_neg (show ¬t.val = 0 by omega), if_neg (show ¬t.val + 1 = 0 by omega), accAt_succ m c t]
  iintro ⟨⟨HS1, Hg, ⟨-, Hfr0, Hfr1, Hfr2⟩⟩, ⟨%W, -, HW⟩, ⟨%d0, H0⟩, ⟨%d1, H1⟩, ⟨%d2, H2⟩, ⟨%d3, H3⟩, ⟨%d4, H4⟩, ⟨%d5, H5⟩⟩
  iapply ((kernelRun0_C c t _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (accAt m c t.val) ((dats m 0 c).before 5 t d5) (V m c main_arg0)) W _)
  isplitl [H0]; · iexact H0
  isplitl [H1]; · iexact H1
  isplitl [H2]; · iexact H2
  isplitl [H3]; · iexact H3
  isplitl [H4]; · iexact H4
  isplitl [H5]; · iexact H5
  isplitl [HS1]; · iexact HS1
  isplitl [Hfr0]; · iexact Hfr0
  isplitl [Hfr1]; · iexact Hfr1
  isplitl [Hfr2]; · iexact Hfr2
  isplitl [HW]; · iexact HW
  iintro ⟨H0, H1, H2, H3, H4, H5, HS1, Hfa, Hfb, Hfc, ⟨%W', HW'⟩⟩
  isplitl [HS1 Hg Hfa Hfb Hfc]
  · isplitl [HS1]; · iexact HS1
    isplitl [Hg]; · iexact Hg
    iapply (Ring.with_homes (Idealize.SL.BI.Entails.refl _))
    isplitl [Hfa]; · iexact Hfa
    isplitl [Hfb]; · iexact Hfb
    iexact Hfc
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexists _; iexact H5

set_option maxHeartbeats 1600000 in
/-- The body at the last point. -/
theorem sound_D (c : Dev nD) (t : Fin cfg0.N) (h0 : ¬t.val % 8 = 0) (h1 : ¬t.val < 6) (h2 : t.val % 8 = 7) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0 scr
  have hN : t.val < 8 := lt_of_lt_of_eq t.isLt (show cfg0.N = 8 from N_0)
  rw [leaves0_0, leaves0_1, leaves0_2, leaves0_3, leaves0_4, leaves0_5_live m c t h2]
  obtain ⟨hK10, hKB0, hKlt0, hKs0⟩ := rstep0_0_D t (fun h => h0 ((hcond0_0 t).mp h)) (fun h => h1 ((hcond0_1 t).mp h)) ((hcond0_2 t).mpr h2)
  rw [if_neg (show ¬t.val = 0 by omega), if_neg (show ¬t.val + 1 = 0 by omega)]
  rw [Ring.At3_here_tail _ _ _ _ t.val hKlt0, Ring.At3_next_tail _ _ _ _ t.val hKB0 hKlt0, Ring.slotAt3_tail_role _ _ _ t.val]
  rw [if_neg (show ¬t.val = 0 by omega), if_neg (show ¬t.val + 1 = 0 by omega), accAt_succ m c t]
  iintro ⟨⟨HS1, Hg, ⟨-, Hfr0, Hfr1, Hfr2⟩⟩, ⟨%W, -, HW⟩, ⟨%d0, H0⟩, ⟨%d1, H1⟩, ⟨%d2, H2⟩, ⟨%d3, H3⟩, ⟨%d4, H4⟩, ⟨%d5, H5⟩⟩
  iapply ((kernelRun0_D c t _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) (accAt m c t.val) (V m c main_arg0)) W _)
  isplitl [H0]; · iexact H0
  isplitl [H1]; · iexact H1
  isplitl [H2]; · iexact H2
  isplitl [H3]; · iexact H3
  isplitl [H4]; · iexact H4
  isplitl [H5]; · iexists _; iexact H5
  isplitl [HS1]; · iexact HS1
  isplitl [Hfr0]; · iexact Hfr0
  isplitl [Hfr1]; · iexact Hfr1
  isplitl [Hfr2]; · iexact Hfr2
  isplitl [HW]; · iexact HW
  iintro ⟨H0, H1, H2, H3, H4, H5, HS1, Hfa, Hfb, Hfc, ⟨%W', HW'⟩⟩
  isplitl [HS1 Hg Hfa Hfb Hfc]
  · isplitl [HS1]; · iexact HS1
    isplitl [Hg]; · iexact Hg
    iapply (Ring.with_homes (Idealize.SL.BI.Entails.refl _))
    isplitl [Hfa]; · iexact Hfa
    isplitl [Hfb]; · iexact Hfb
    iexact Hfc
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 8 := lt_of_lt_of_eq t.isLt (show cfg0.N = 8 from N_0)
  by_cases h0 : t.val % 8 = 0
  · exact sound_A m c t h0 (by omega) (by omega)
  · by_cases h1 : t.val < 6
    · exact sound_B m c t h0 h1 (by omega)
    · by_cases h2 : t.val % 8 = 7
      · exact sound_D m c t h0 h1 h2
      · exact sound_C m c t h0 h1 h2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation to the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Into the region and out of it -/

theorem hin (c : Dev nD) : Pipeline.ΦD osem0 spec0 H0 (V m) c ⊢ (dats m 0 c).Φ 0 := by
  rw [PhiD0_eq, show (dats m 0 c).Φ 0 = PhiR m c 0 from rfl]
  unfold PhiR scr
  rw [if_pos rfl]
  iintro ⟨⟨HR0_0, HS1⟩, Hg, ⟨Hq0, Hq1, Hq2⟩, Hh0⟩
  isplitl [HS1]; · iexact HS1
  isplitl [Hg]; · iexact Hg
  iapply (ring0_0_in (F := F) m c)
  isplitl [HR0_0]; · iexact HR0_0
  isplitl [Hq0 Hq1 Hq2]
  · isplitl [Hq0]; · iexact Hq0
    isplitl [Hq1]; · iexact Hq1
    iexact Hq2
  iexact Hh0

theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR scr
  rw [show grid0.N = 8 by rw [N_0], if_neg (by decide)]
  iintro ⟨HS1, Hg, HR0_0⟩
  ihave HX0_0 := (ring0_0_out (F := F) m c) $$ HR0_0
  icases HX0_0 with ⟨HR0_0, ⟨Hq0, Hq1, Hq2⟩, Hh0⟩
  isplitl [HR0_0 HS1]
  · isplitl [HR0_0]; · iexact HR0_0
    iexists _; iexact HS1
  isplitl [Hg]; · iexact Hg
  isplitl [Hq0 Hq1 Hq2]
  · isplitl [Hq0]; · iexact Hq0
    isplitl [Hq1]; · iexact Hq1
    iexact Hq2
  iexact Hh0

/-! ## The launch -/

set_option backward.isDefEq.respectTransparency.types false in
set_option maxHeartbeats 800000 in
/-- Every run of the program ends, with every array at what the proof data says and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- Every run ends with the arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans ((rest_kept m (dats m) c main_arg0 (by decide) (by decide)).trans (V_main_arg0 m c)),
      ((h.1 c).2 main_arg1 (Pipeline.mem_restRefs_of main_arg1 (by decide) (by decide))).trans ((rest_kept m (dats m) c main_arg1 (by decide) (by decide)).trans (V_main_arg1 m c)),
      ((h.1 c).1 1).trans (((dats m 0 c).arrAt_in 1 rfl _).trans ((A_eq m c 1).trans (V_main_arg2 m c))),
      ((h.1 c).2 main_arg3 (Pipeline.mem_restRefs_of main_arg3 (by decide) (by decide))).trans ((rest_kept m (dats m) c main_arg3 (by decide) (by decide)).trans (V_main_arg3 m c)),
      ((h.1 c).1 3).trans (((dats m 0 c).arrAt_in 3 rfl _).trans ((A_eq m c 3).trans (V_main_arg4 m c))),
      ((h.1 c).2 main_arg5 (Pipeline.mem_restRefs_of main_arg5 (by decide) (by decide))).trans ((rest_kept m (dats m) c main_arg5 (by decide) (by decide)).trans (V_main_arg5 m c))⟩, h.2⟩)
    (run_main m ρ)

end Cert.KernelIdeal.Own

end
-- ==== Proof.Run.Same.lean ====
/- The kernel as given and the idealized kernel are the same program text, read at two kinds of float; so what holds of
   every run of the second at any floats holds of the first. -/
module

public import proofs.«01_k».proof.Defs
public import proofs.«01_k».proof.Proof.Gen.Kernel
public import proofs.«01_k».proof.Proof.Run.Frame

@[expose] public section

noncomputable section

namespace Cert.Same

open Idealize.ShloMosaic Idealize.SL.Sem

variable {F : FTy → Type} [FloatOps F]

local instance : Cert.Kernel.Facts := Cert.Kernel.Gen.facts
local instance : Cert.KernelIdeal.Facts := Cert.KernelIdeal.Gen.facts

/-- The two tables of kernel bodies agree: at their only label, the same body at the same buffers. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So do the tables with the pipelines in them. -/
theorem defs_eq : Cert.Kernel.defs (F := F) = Cert.KernelIdeal.defs (F := F) :=
  congrArg (Pipeline.defs (Cert.KernelIdeal.pcfgs (F := F))) defs₀_eq

/-- The kernel as given ends with its arguments as they were and every semaphore counter at zero. -/
theorem quiescent_kernel : Cert.quiescent_Kernel (hKernel := Cert.Kernel.Gen.facts) := fun m g _ => by
  rw [defs_eq]
  exact Cert.KernelIdeal.Own.frame (F := Bits) m g

end Cert.Same

end
-- ==== Proof.Math.Spec.lean ====
/- The functions both programs compute, over the extended reals: the encoder's rows, the exponentials of the gate's
   scores, and the two spellings of the pooled result (weights normalised after, or before, the rows are summed). -/
module

public import Idealize.ShloMosaic.PureOps.Ideal.Laws
public import Idealize.ShloMosaic.Lib.Pointwise.Index

@[expose] public section

noncomputable section

namespace Cert.Math

open Idealize.ShloMosaic

/-- A matrix of extended reals, indexed as a program's rank-2 buffer is. -/
abbrev Mat (a b : Nat) : Type := (⟨2, ![a, b]⟩ : Shape).Idx → EReal
/-- A vector of extended reals, indexed as a program's rank-1 buffer is. -/
abbrev Row (a : Nat) : Type := (⟨1, ![a]⟩ : Shape).Idx → EReal
/-- The segment labels: one 32-bit word per row. -/
abbrev Labels : Type := (⟨1, ![16384]⟩ : Shape).Idx → BitVec 32

/-- The encoder's output: row `n`, feature `j` of `x @ W + b`. -/
def hid (x : Mat 16384 1024) (w : Mat 1024 64) (b : Row 64) (n : Fin 16384) (j : Fin 64) : EReal :=
  (∑ k : Fin 1024, x (ix2 n k) * w (ix2 k j)) + b (ix1 j)

/-- The exponential of the gate's score of row `n` in channel `c`. -/
def ex (x : Mat 16384 1024) (w : Mat 1024 64) (b : Row 64) (gw : Mat 64 32) (gb : Row 32) (n : Fin 16384) (c : Fin 32) : EReal :=
  Ideal.exp ((∑ j : Fin 64, hid x w b n j * gw (ix2 j c)) + gb (ix1 c))

/-- Row `n` belongs to segment `s`: its label is the word of `s`. -/
def hit (lab : Labels) (s : Fin 16) (n : Fin 16384) : Prop := lab (ix1 n) = BitVec.ofNat 32 s.val

instance (lab : Labels) (s : Fin 16) (n : Fin 16384) : Decidable (hit lab s n) := by unfold hit; infer_instance

/-- The guard added to every denominator, the constant both programs print. -/
def eps : EReal := Ideal.ofBits .f32 0x24E69595#32

/-- Sum first, normalise after: the kernel's spelling of one entry of the result, over rows `ι` of which those with `p` are in
    the segment, at exponentials `e` and features `h`. -/
def pooledAfter {ι : Type} [Fintype ι] (p : ι → Prop) [DecidablePred p] (e h : ι → EReal) : EReal :=
  max (Ideal.div (∑ n, (if p n then e n else 0) * h n) ((∑ n, (if p n then e n else 0) * 1) + eps)) 0

/-- Normalise first, sum after: the reference's spelling of the same entry. -/
def pooledBefore {ι : Type} [Fintype ι] (p : ι → Prop) [DecidablePred p] (e h : ι → EReal) : EReal :=
  max (∑ n, if p n then Ideal.div (e n) ((∑ n', if p n' then e n' else 0) + eps) * h n else 0) 0

end Cert.Math

end
-- ==== Proof.Math.Block.lean ====
/- One block of the kernel read at an index, over the extended reals: what a grid point adds to the accumulator, and
   what the last point makes of it. -/
module

public import proofs.«01_k».proof.Proof.Run.Step
public import proofs.«01_k».proof.Proof.Math.Spec
public import Idealize.ShloMosaic.Lib.Pointwise

@[expose] public section

set_option maxRecDepth 16384

noncomputable section

namespace Cert.Math

open Idealize.ShloMosaic Cert.KernelIdeal Cert.KernelIdeal.Gen Cert.KernelIdeal.Own

/-- The segment of every accumulator row as the kernel computes it: the row's number floor-divided by 32, on words. -/
def rowSeg : IVec S512x1 32 :=
  have n : IVec S512x1 32 := iota .tc S512x1 32 [0] iota_S512x1_d0_w32
  have q : IVec S512x1 32 := divsi n (broadcast S512x1 32#32)
  have sn : IVec S512x1 32 := subi (extui 32 (cmpi .sgt n (broadcast S512x1 0#32)) natLt_1_32) (extui 32 (cmpi .slt n (broadcast S512x1 0#32)) natLt_1_32)
  have sd : BitVec 32 := Scalar.subi (Scalar.extui (Scalar.cmpi .sgt 32#32 0#32)) (Scalar.extui (Scalar.cmpi .slt 32#32 0#32))
  select (andi (cmpi .ne sn (broadcast S512x1 sd)) (cmpi .ne (remsi n (broadcast S512x1 32#32)) (broadcast S512x1 0#32))) (subi q (broadcast S512x1 1#32)) q

/-- Accumulator row `r` belongs to segment `r / 32`. -/
theorem rowSeg_apply : ∀ r : Fin 512, rowSeg (ix2 r 0) = BitVec.ofNat 32 (r.val / 32) := by
  decide +kernel

/-- The 16 copies of the transposed exponentials, one below another: row `r` is row `r % 32` of a copy. -/
theorem stacked_apply (v : FVec Ideal S32x2048 .bf16) (r : Fin 512) (l : Fin 2048)
    (h : Shape.Concatenates ((List.replicate 16 (⟨S32x2048, v⟩ : (s : Shape) × (s.Idx → Ideal .bf16))).map (·.1)) S512x2048 0) :
    concatenate S512x2048 0 (List.replicate 16 (⟨S32x2048, v⟩ : (s : Shape) × (s.Idx → Ideal .bf16))) h (ix2 r l)
      = v (ix2 ⟨r.val % 32, Nat.mod_lt _ (by decide)⟩ l) :=
  concatenate_replicate_apply 0 16 v h rfl (ix2 r l) (ix2 ⟨r.val % 32, Nat.mod_lt _ (by decide)⟩ l) rfl fun b hb =>
    match b with
    | ⟨0, _⟩ => absurd rfl hb
    | ⟨1, _⟩ => rfl

/-- A block's encoder rows. -/
theorem pay5_apply (xb : Vec Ideal S1x2048x1024 .f32) (x1 : Vec Ideal S1024x64 .f32) (x2 : Vec Ideal S1x64 .f32) (l : Fin 2048) (j : Fin 64) :
    k0_pay5 xb x1 x2 (ix2 l j) = (∑ k : Fin 1024, xb (ix3 0 l k) * x1 (ix2 k j)) + x2 (ix2 0 j) := by
  pointwise [k0_pay5]

/-- A block's gate scores, before their bias. -/
theorem pay6_apply (xb : Vec Ideal S1x2048x1024 .f32) (x1 : Vec Ideal S1024x64 .f32) (x2 : Vec Ideal S1x64 .f32) (x3 : Vec Ideal S64x32 .f32) (l : Fin 2048) (c : Fin 32) :
    k0_pay6 xb x1 x2 x3 (ix2 l c) = ∑ j : Fin 64, k0_pay5 xb x1 x2 (ix2 l j) * x3 (ix2 j c) := by
  pointwise [k0_pay6]

/-- The block's features with a column of ones on the right. -/
def withOnes (v27 : FVec Ideal S2048x64 .f32) : FVec Ideal S2048x65 .bf16 :=
  concatenate S2048x65 1 [⟨S2048x64, truncf .bf16 v27 bitsLt_bf16_f32⟩, ⟨S2048x1, broadcast S2048x1 (Scalar.ofBits .bf16 0x3F80#16)⟩] concatenates_S2048x64_S2048x1_S2048x65_d1

/-- Its first 64 columns are the features, -/
theorem withOnes_left (v27 : FVec Ideal S2048x64 .f32) (l : Fin 2048) (j : Fin 64) : withOnes v27 (ix2 l (j.castSucc : Fin 65)) = v27 (ix2 l j) := by
  pointwise [withOnes]
  simp

/-- its last one is all ones. -/
theorem withOnes_last (v27 : FVec Ideal S2048x64 .f32) (l : Fin 2048) : withOnes v27 (ix2 l (64 : Fin 65)) = 1 := by
  pointwise [withOnes]

/-- The exponentials of the block's gate scores, one row per channel. -/
def exps (v29 : FVec Ideal S2048x32 .f32) (v30 : Vec Ideal S1x32 .f32) : FVec Ideal S32x2048 .bf16 :=
  truncf .bf16 (transpose S32x2048 [1, 0] (exp (addf v29 (broadcastTo S2048x32 (shapeCast S1x32 v30 shapeCasts_S1x32_S1x32) broadcasts_S1x32_S2048x32)))
    transposes_S2048x32_p1_0_S32x2048) bitsLt_bf16_f32

theorem exps_apply (v29 : FVec Ideal S2048x32 .f32) (v30 : Vec Ideal S1x32 .f32) (c : Fin 32) (l : Fin 2048) :
    exps v29 v30 (ix2 c l) = Ideal.exp (v29 (ix2 l c) + v30 (ix2 0 c)) := by
  pointwise [exps]

/-- A selection on an equality of words is an `if`. -/
theorem select_eq (a b : BitVec 32) (u v : EReal) : Scalar.select (IntOp.cmpi .eq a b) u v = if a = b then u else v := by
  by_cases h : a = b
  · subst h; simp [Scalar.select, IntOp.cmpi]
  · have e : (a == b) = false := by simpa using h
    simp [Scalar.select, IntOp.cmpi, h, e]

/-- The exponentials stacked 16 times, kept where the row's segment is the label and zero elsewhere. -/
def masked (v16 : IVec S1x2048 32) (v36 : FVec Ideal S32x2048 .bf16) : FVec Ideal S512x2048 .bf16 :=
  select (cmpi .eq (broadcastTo S512x2048 rowSeg broadcasts_S512x1_S512x2048) (broadcastTo S512x2048 v16 broadcasts_S1x2048_S512x2048))
    (concatenate S512x2048 0 (List.replicate 16 (⟨S32x2048, v36⟩ : (s : Shape) × (s.Idx → Ideal .bf16))) concatenates_S32x2048_S32x2048_S32x2048_S32x2048_S32x2048_S32x2048_S32x2048_S32x2048_S32x2048_S32x2048_S32x2048_S32x2048_S32x2048_S32x2048_S32x2048_S32x2048_S512x2048_d0)
    (broadcast S512x2048 (Scalar.ofBits .bf16 0x0000#16))

theorem masked_apply (v16 : IVec S1x2048 32) (v36 : FVec Ideal S32x2048 .bf16) (r : Fin 512) (l : Fin 2048) :
    masked v16 v36 (ix2 r l) = if v16 (ix2 0 l) = BitVec.ofNat 32 (r.val / 32) then v36 (ix2 ⟨r.val % 32, Nat.mod_lt _ (by decide)⟩ l) else 0 := by
  unfold masked
  rw [ValueIdx.select_apply, stacked_apply]
  pointwise
  rw [rowSeg_apply, select_eq]
  simp only [eq_comm]

/-- A product of a 512-row matrix with a 65-column one, at an index. -/
theorem mm_apply (p : FVec Ideal S512x2048 .bf16) (q : FVec Ideal S2048x65 .bf16) (r : Fin 512) (j : Fin 65) :
    matmul dot_S512x2048_S2048x65_S512x65_1_0_0_1_n_n none p q (constant S512x65 .f32 0x00000000#32) (ix2 r j) = ∑ l : Fin 2048, p (ix2 r l) * q (ix2 l j) := by
  pointwise

/-- The point's last payload, in these names. -/
theorem pay7_eq (v16 : IVec S1x2048 32) (v27 : FVec Ideal S2048x64 .f32) (v29 : FVec Ideal S2048x32 .f32) (v30 : Vec Ideal S1x32 .f32) (v71 : Vec Ideal S512x65 .f32) :
    k0_pay7 v16 v27 v29 v30 v71
      = addf v71 (matmul dot_S512x2048_S2048x65_S512x65_1_0_0_1_n_n none (masked v16 (exps v29 v30)) (withOnes v27) (constant S512x65 .f32 0x00000000#32)) := rfl

/-- The accumulator is stored as it is. -/
theorem pay1_eq (v : FVec Ideal S512x65 .f32) : k0_pay1 v = v := shapeCast_self _ _

/-- The label of the block's position `l`. -/
theorem pay4_apply (x0 : Vec Ideal S1x1x2048 .i32) (l : Fin 2048) : k0_pay4 (F := Ideal) x0 (ix2 0 l) = x0 (ix3 0 0 l) := by
  pointwise [k0_pay4]

/-- Row `l` of block `t`. -/
def row (t : Fin 8) (l : Fin 2048) : Fin 16384 := ⟨2048 * t.val + l.val, by omega⟩

/-- Segment of an accumulator row. -/
def segOf (r : Fin 512) : Fin 16 := ⟨r.val / 32, by omega⟩
/-- Channel of an accumulator row. -/
def chanOf (r : Fin 512) : Fin 32 := ⟨r.val % 32, by omega⟩

section Point

variable {x : Mat 16384 1024} {lab : Labels} {w : Mat 1024 64} {b : Row 64} {gw : Mat 64 32} {gb : Row 32} {t : Fin 8}
  {x0 : Vec Ideal S1x1x2048 .i32} {xb : Vec Ideal S1x2048x1024 .f32} {x1 : Vec Ideal S1024x64 .f32} {x2 : Vec Ideal S1x64 .f32}
  {x3 : Vec Ideal S64x32 .f32} {x4 : Vec Ideal S1x32 .f32}

/-- The encoder rows of block `t` are rows of the whole encoder output. -/
theorem pay5_hid (hb : ∀ l k, xb (ix3 0 l k) = x (ix2 (row t l) k)) (h1 : ∀ k j, x1 (ix2 k j) = w (ix2 k j)) (h2 : ∀ j, x2 (ix2 0 j) = b (ix1 j))
    (l : Fin 2048) (j : Fin 64) : k0_pay5 xb x1 x2 (ix2 l j) = hid x w b (row t l) j := by
  rw [pay5_apply, h2]
  simp only [hb, h1]
  rfl

/-- What block `t` contributes at an accumulator row, before the product with the features. -/
theorem masked_ex (h0 : ∀ l, x0 (ix3 0 0 l) = lab (ix1 (row t l))) (hb : ∀ l k, xb (ix3 0 l k) = x (ix2 (row t l) k))
    (h1 : ∀ k j, x1 (ix2 k j) = w (ix2 k j)) (h2 : ∀ j, x2 (ix2 0 j) = b (ix1 j)) (h3 : ∀ j c, x3 (ix2 j c) = gw (ix2 j c)) (h4 : ∀ c, x4 (ix2 0 c) = gb (ix1 c))
    (r : Fin 512) (l : Fin 2048) :
    masked (k0_pay4 (F := Ideal) x0) (exps (k0_pay6 xb x1 x2 x3) x4) (ix2 r l)
      = if hit lab (segOf r) (row t l) then ex x w b gw gb (row t l) (chanOf r) else 0 := by
  rw [masked_apply, pay4_apply, h0, exps_apply, pay6_apply, h4]
  simp only [pay5_hid hb h1 h2, h3]
  rfl

/-- A point adds to the first 64 columns of the accumulator its block's masked exponentials times its features. -/
theorem stp_left (h0 : ∀ l, x0 (ix3 0 0 l) = lab (ix1 (row t l))) (hb : ∀ l k, xb (ix3 0 l k) = x (ix2 (row t l) k))
    (h1 : ∀ k j, x1 (ix2 k j) = w (ix2 k j)) (h2 : ∀ j, x2 (ix2 0 j) = b (ix1 j)) (h3 : ∀ j c, x3 (ix2 j c) = gw (ix2 j c)) (h4 : ∀ c, x4 (ix2 0 c) = gb (ix1 c))
    (a : Vec Ideal S512x65 .f32) (r : Fin 512) (j : Fin 64) :
    stp x0 xb x1 x2 x3 x4 a (ix2 r (j.castSucc : Fin 65)) = a (ix2 r (j.castSucc : Fin 65))
      + ∑ l : Fin 2048, (if hit lab (segOf r) (row t l) then ex x w b gw gb (row t l) (chanOf r) else 0) * hid x w b (row t l) j := by
  unfold stp
  rw [pay1_eq, pay7_eq, ValueIdx.addf_apply, mm_apply]
  simp only [masked_ex h0 hb h1 h2 h3 h4, withOnes_left, pay5_hid hb h1 h2]

/-- A point adds to the last column of the accumulator the sum of its block's masked exponentials. -/
theorem stp_last (h0 : ∀ l, x0 (ix3 0 0 l) = lab (ix1 (row t l))) (hb : ∀ l k, xb (ix3 0 l k) = x (ix2 (row t l) k))
    (h1 : ∀ k j, x1 (ix2 k j) = w (ix2 k j)) (h2 : ∀ j, x2 (ix2 0 j) = b (ix1 j)) (h3 : ∀ j c, x3 (ix2 j c) = gw (ix2 j c)) (h4 : ∀ c, x4 (ix2 0 c) = gb (ix1 c))
    (a : Vec Ideal S512x65 .f32) (r : Fin 512) :
    stp x0 xb x1 x2 x3 x4 a (ix2 r (64 : Fin 65)) = a (ix2 r (64 : Fin 65))
      + ∑ l : Fin 2048, (if hit lab (segOf r) (row t l) then ex x w b gw gb (row t l) (chanOf r) else 0) * 1 := by
  unfold stp
  rw [pay1_eq, pay7_eq, ValueIdx.addf_apply, mm_apply]
  simp only [masked_ex h0 hb h1 h2 h3 h4, withOnes_last]

end Point

/-- The accumulator starts at zero. -/
theorem pay3_apply (r : Fin 512) (j : Fin 65) : k0_pay3 (F := Ideal) (ix2 r j) = 0 := by
  pointwise [k0_pay3]

/-- The last payload at an index: the quotient of its operands, the second guarded, clipped at zero. -/
theorem pay2_apply (v80 : Vec Ideal S512x64 .f32) (v81 : Vec Ideal S512x1 .f32) (r : Fin 512) (j : Fin 64) :
    k0_pay2 v80 v81 (ix2 r j) = max (Ideal.div (v80 (ix2 r j)) (v81 (ix2 r 0) + eps)) 0 := by
  pointwise [k0_pay2]
  rfl

/-- The result at an index, from the finished accumulator. -/
theorem fin_apply (a : Vec Ideal S512x65 .f32) (r : Fin 512) (j : Fin 64) :
    fin a (ix2 r j) = max (Ideal.div (a (ix2 r (j.castSucc : Fin 65))) (a (ix2 r (64 : Fin 65)) + eps)) 0 := by
  unfold fin
  rw [pay2_apply]
  have e1 : (Rect.unit (s := S512x65) ![0, 0] S512x64.size inb_S512x65_S512x64_0_0).toLoadRect.idx (ix2 r j) = ix2 r (j.castSucc : Fin 65) := by
    funext d; refine d.cases ?_ fun d => d.cases ?_ fun d => d.elim0 <;> apply Fin.ext <;> simp [Rect.unit, Rect.toLoadRect, LoadRect.idx] <;> rfl
  have e2 : (Rect.unit (s := S512x65) ![0, 64] S512x1.size inb_S512x65_S512x1_0_64).toLoadRect.idx (ix2 r 0) = ix2 r (64 : Fin 65) := by
    funext d; refine d.cases ?_ fun d => d.cases ?_ fun d => d.elim0 <;> apply Fin.ext <;> simp [Rect.unit, Rect.toLoadRect, LoadRect.idx] <;> rfl
  unfold pick
  rw [e1, e2]

end Cert.Math

end
-- ==== Proof.Math.Array.lean ====
/- The kernel's result over the extended reals: the blocks each grid point reads as rows of the arguments, the
   accumulator after the last point as sums over all rows, and the result at an index. -/
module

public import proofs.«01_k».proof.Proof.Run.Frame
public import proofs.«01_k».proof.Proof.Math.Block
public import Idealize.ShloMosaic.Lib.Pipeline.ValueKit
public import Idealize.ShloMosaic.Lib.Claim

@[expose] public section

set_option maxRecDepth 16384

noncomputable section

namespace Cert.Math

open Idealize.ShloMosaic Idealize.ShloMosaic.TcCoe Idealize.SL.Sem Cert.KernelIdeal Cert.KernelIdeal.Gen Cert.KernelIdeal.Own

variable (m : (ℓ : Loc nD τ sig) → Buf (Elt Ideal) ℓ) (c : Dev nD)

/-- The arguments of a run. -/
abbrev argX : Mat 16384 1024 := m ((c.tc : Thread nD τ).loc main_arg0)
abbrev argLab : Labels := m ((c.tc : Thread nD τ).loc main_arg1)
abbrev argW : Mat 1024 64 := m ((c.tc : Thread nD τ).loc main_arg2)
abbrev argB : Row 64 := m ((c.tc : Thread nD τ).loc main_arg3)
abbrev argGW : Mat 64 32 := m ((c.tc : Thread nD τ).loc main_arg4)
abbrev argGB : Row 32 := m ((c.tc : Thread nD τ).loc main_arg5)

/-! ## The arrays the pipeline finds -/

theorem V_v0_eq : V m c main_v0 = shapeCast S8x1x2048 (argLab m c) shapeCasts_S16384_S8x1x2048 := by
  dsimp only [V, V0, hostOps0, List.flatten_cons, List.flatten_nil, List.cons_append, List.nil_append]
  after_results_simp <;> rfl

theorem V_v1_eq : V m c main_v1 = shapeCast S1x64 (argB m c) shapeCasts_S64_S1x64 := by
  dsimp only [V, V0, hostOps0, List.flatten_cons, List.flatten_nil, List.cons_append, List.nil_append]
  after_results_simp <;> rfl

theorem V_v2_eq : V m c main_v2 = shapeCast S1x32 (argGB m c) shapeCasts_S32_S1x32 := by
  dsimp only [V, V0, hostOps0, List.flatten_cons, List.flatten_nil, List.cons_append, List.nil_append]
  after_results_simp <;> rfl

/-- The labels, laid out as eight blocks. -/
theorem V_v0_apply (t : Fin 8) (l : Fin 2048) : V m c main_v0 (ix3 t 0 l) = argLab m c (ix1 (row t l)) := by
  rw [V_v0_eq]
  refine shapeCast_apply _ _ _ _ ?_
  rw [Shape.rowMajor_val_one, Shape.rowMajor_val_three]
  show 2048 * t.val + l.val = (t.val * 1 + 0) * 2048 + l.val
  omega

/-- The encoder's bias as a one-row matrix. -/
theorem V_v1_apply (j : Fin 64) : V m c main_v1 (ix2 0 j) = argB m c (ix1 j) := by
  rw [V_v1_eq]
  refine shapeCast_apply _ _ _ _ ?_
  rw [Shape.rowMajor_val_one, Shape.rowMajor_val_two]
  show j.val = 0 * 64 + j.val
  omega

/-- The gate's bias as a one-row matrix. -/
theorem V_v2_apply (j : Fin 32) : V m c main_v2 (ix2 0 j) = argGB m c (ix1 j) := by
  rw [V_v2_eq]
  refine shapeCast_apply _ _ _ _ ?_
  rw [Shape.rowMajor_val_one, Shape.rowMajor_val_two]
  show j.val = 0 * 32 + j.val
  omega

/-! ## The blocks a point reads -/

/-- A grid point as a number below 8. -/
def pt (t : Fin cfg0.N) : Fin 8 := ⟨t.val, t.isLt⟩

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

/-- Point `t` reads the `t`-th block of labels, -/
theorem blk0 (t : Fin cfg0.N) (l : Fin 2048) : iblk m c 0 t (ix3 0 0 l) = argLab m c (ix1 (row (pt t) l)) := by
  rw [← V_v0_apply]
  blk_simp [iblk]
  refine congrArg (V m c main_v0) ?_
  blk_ext [index0, pt]

/-- the whole encoder weight, -/
theorem blk1 (t : Fin cfg0.N) (k : Fin 1024) (j : Fin 64) : iblk m c 1 t (ix2 k j) = argW m c (ix2 k j) := by
  blk_simp [iblk]
  refine Eq.trans (congrArg (V m c main_arg2) ?_) (congrFun (V_main_arg2 m c) (ix2 k j))
  blk_ext [index1]

/-- the whole encoder bias, -/
theorem blk2 (t : Fin cfg0.N) (j : Fin 64) : iblk m c 2 t (ix2 0 j) = argB m c (ix1 j) := by
  rw [← V_v1_apply]
  blk_simp [iblk]
  refine congrArg (V m c main_v1) ?_
  blk_ext [index2]

/-- the whole gate weight, -/
theorem blk3 (t : Fin cfg0.N) (j : Fin 64) (k : Fin 32) : iblk m c 3 t (ix2 j k) = argGW m c (ix2 j k) := by
  blk_simp [iblk]
  refine Eq.trans (congrArg (V m c main_arg4) ?_) (congrFun (V_main_arg4 m c) (ix2 j k))
  blk_ext [index3]

/-- the whole gate bias, -/
theorem blk4 (t : Fin cfg0.N) (j : Fin 32) : iblk m c 4 t (ix2 0 j) = argGB m c (ix1 j) := by
  rw [← V_v2_apply]
  blk_simp [iblk]
  refine congrArg (V m c main_v2) ?_
  blk_ext [index4]

/-- and, copied in by hand, the `t`-th block of node features. -/
theorem xwin_apply (t : Fin 8) (l : Fin 2048) (k : Fin 1024) : xwin (c := c) (V m c main_arg0) t (ix3 0 l k) = argX m c (ix2 (row t l) k) := by
  unfold xwin
  refine (shapeCast_apply _ _ _ (ix2 l k) ?_).trans ?_
  · rw [Shape.rowMajor_val_two, Shape.rowMajor_val_three]
    show l.val * 1024 + k.val = (0 * 2048 + l.val) * 1024 + k.val
    omega
  · rw [V_main_arg0]
    refine congrArg (argX m c) ?_
    funext a
    match a with
    | ⟨0, _⟩ => apply Fin.ext; show 2048 * t.val + 1 * l.val = 2048 * t.val + l.val; omega
    | ⟨1, _⟩ => apply Fin.ext; show 0 + 1 * k.val = k.val; omega

/-! ## The accumulator after the last point -/

/-- Step `t` waits block `t`. -/
theorem bk_pt : ∀ t : Fin cfg0.N, Ring.bk 8 t.val = pt t := (by decide +kernel : ∀ t : Fin grid0.N, _)

/-- A quantity that grows at every point by a sum over the point's rows ends at its sum over all rows. -/
theorem sum_points (f : ℕ → EReal) (g : Fin 16384 → EReal) (h0 : f 0 = 0)
    (hs : ∀ t : Fin 8, f (t.val + 1) = f t.val + ∑ l, g (row t l)) : f 8 = ∑ n, g n := by
  have h : ∀ k, k ≤ 8 → f k = ∑ t ∈ Finset.range k, if ht : t < 8 then ∑ l, g (row ⟨t, ht⟩ l) else 0 := by
    intro k
    induction k with
    | zero => intro _; rw [h0, Finset.sum_range_zero]
    | succ k ih =>
      intro hk
      rw [Finset.sum_range_succ, ← ih (by omega), dif_pos (by omega)]
      exact hs ⟨k, by omega⟩
  rw [h 8 le_rfl, Finset.sum_range]
  simp only [Fin.is_lt, dif_pos]
  rw [← Fintype.sum_prod_type' (f := fun t l => g (row t l))]
  refine Fintype.sum_equiv (finProdFinEquiv.trans (finCongr (by norm_num : 8 * 2048 = 16384))) _ _ fun p => congrArg g ?_
  apply Fin.ext
  show 2048 * p.1.val + p.2.val = p.2.val + 2048 * p.1.val
  omega

/-- The masked exponential of a row at an accumulator row. -/
abbrev gate (r : Fin 512) (n : Fin 16384) : EReal :=
  if hit (argLab m c) (segOf r) n then ex (argX m c) (argW m c) (argB m c) (argGW m c) (argGB m c) n (chanOf r) else 0

/-- The first 64 columns of the finished accumulator: the sums of masked exponentials times features. -/
theorem acc_left (r : Fin 512) (j : Fin 64) :
    accAt m c 8 (ix2 r (j.castSucc : Fin 65)) = ∑ n, gate m c r n * hid (argX m c) (argW m c) (argB m c) n j := by
  refine sum_points (fun k => accAt m c k (ix2 r (j.castSucc : Fin 65))) (fun n => gate m c r n * hid (argX m c) (argW m c) (argB m c) n j) (pay3_apply _ _) fun t => ?_
  have e := accAt_succ m c (⟨t.val, t.isLt⟩ : Fin cfg0.N)
  rw [bk_pt] at e
  exact (congrFun e _).trans (stp_left (t := t) (blk0 m c _) (xwin_apply m c t) (blk1 m c _) (blk2 m c _) (blk3 m c _) (blk4 m c _) _ r j)

/-- The last column of the finished accumulator: the sums of masked exponentials. -/
theorem acc_last (r : Fin 512) : accAt m c 8 (ix2 r (64 : Fin 65)) = ∑ n, gate m c r n * 1 := by
  refine sum_points (fun k => accAt m c k (ix2 r (64 : Fin 65))) (fun n => gate m c r n * 1) (pay3_apply _ _) fun t => ?_
  have e := accAt_succ m c (⟨t.val, t.isLt⟩ : Fin cfg0.N)
  rw [bk_pt] at e
  exact (congrFun e _).trans (stp_last (t := t) (blk0 m c _) (xwin_apply m c t) (blk1 m c _) (blk2 m c _) (blk3 m c _) (blk4 m c _) _ r)

/-! ## The result -/

/-- The last grid point. -/
def lastPt : Fin grid0.N := ⟨7, by decide⟩

/-- It alone writes the output, and all of it. -/
theorem whole5 : win0_5.WholeAt lastPt := by decide +kernel

/-- The pipeline's output array is what the last point stores. -/
theorem out_eq : (dats m 0 c).arrAt 5 cfg0.N = fin (accAt m c 8) := by
  refine (dats m 0 c).arrAt_eq_of_after_last 5 lastPt whole5 _ fun j => ?_
  blk_simp
  exact congrFun (after0_5 m c lastPt) _

/-- Row `32 b + c` of the output array, as the result's columns `64 c …` of row `b` hold it. -/
def rowOf (s : Fin 16) (k : Fin 32) : Fin 512 := ⟨32 * s.val + k.val, by omega⟩

theorem segOf_rowOf (s : Fin 16) (k : Fin 32) : segOf (rowOf s k) = s := Fin.ext (by show (32 * s.val + k.val) / 32 = s.val; omega)
theorem chanOf_rowOf (s : Fin 16) (k : Fin 32) : chanOf (rowOf s k) = k := Fin.ext (by show (32 * s.val + k.val) % 32 = k.val; omega)

/-- The program's result is the output array, laid out with 32 rows to a row. -/
theorem res_eq : Pipeline.afterTail₀ cfgs (dats m) 0 (V0 m) [hostOps1] c main_v4
    = shapeCast S16x2048 (fin (accAt m c 8)) shapeCasts_S512x64_S16x2048 := by
  rw [← out_eq]
  unfold Pipeline.afterTail₀
  dsimp only [hostOps1, List.flatten_cons, List.flatten_nil, List.cons_append, List.nil_append]
  after_results_simp
  exact congrArg (fun v => shapeCast S16x2048 v shapeCasts_S512x64_S16x2048)
    (Pipeline.withArrays_arr spec0 launch0.win.arr_inj c (V0 m c) (fun w => (dats m 0 c).arrAt w cfg0.N) 5)

/-- The program's result at an index: sum first, normalise after. -/
theorem res_apply (s : Fin 16) (k : Fin 32) (j : Fin 64) :
    Pipeline.afterTail₀ cfgs (dats m) 0 (V0 m) [hostOps1] c main_v4 (ix2 s (⟨64 * k.val + j.val, by omega⟩ : Fin 2048))
      = pooledAfter (hit (argLab m c) s) (fun n => ex (argX m c) (argW m c) (argB m c) (argGW m c) (argGB m c) n k)
          (fun n => hid (argX m c) (argW m c) (argB m c) n j) := by
  rw [res_eq]
  refine (shapeCast_apply _ _ _ (ix2 (rowOf s k) j) ?_).trans ?_
  · rw [Shape.rowMajor_val_two, Shape.rowMajor_val_two]
    show (32 * s.val + k.val) * 64 + j.val = s.val * 2048 + (64 * k.val + j.val)
    omega
  · rw [fin_apply, acc_left, acc_last]
    unfold gate
    rw [segOf_rowOf, chanOf_rowOf]
    rfl

end Cert.Math

end
-- ==== Proof.Math.Reference.lean ====
/- The reference read at an index, over the extended reals. -/
module

public import proofs.«01_k».proof.Proof.Gen.ReferenceIdeal.Run
public import proofs.«01_k».proof.Proof.Gen.ReferenceIdeal.Read
public import proofs.«01_k».proof.Proof.Math.Spec
public import Idealize.ShloMosaic.Lib.Pointwise
public import Idealize.ShloMosaic.Lib.Pointwise.IndexBridge
public import Idealize.ShloMosaic.Lib.Routing.Ops
public import Idealize.ShloMosaic.Lib.Routing.OpsPair
public import Idealize.ShloMosaic.Lib.Quiescent
public import Idealize.ShloMosaic.Lib.Claim

@[expose] public section

set_option maxRecDepth 16384

noncomputable section

namespace Cert.Math

open Idealize.ShloMosaic Idealize.ShloMosaic.TcCoe Idealize.SL.Sem Cert.ReferenceIdeal Cert.ReferenceIdeal.Gen Cert.ReferenceIdeal.Read

/-- A scatter that adds every row of the updates to the row of the operand that the row's label names: an update's window
    starts at row `label`, column 0, and the update stands in it at row 0 and its own column. -/
structure AddsRows {w : Nat} (d : ScatterDims ⟨2, ![16, w]⟩ S16384x1 ⟨2, ![16384, w]⟩) : Prop where
  start0 : ∀ (n : Fin 16384) (c : Fin w) (idx : IVec S16384x1 32), d.start (ix2 n c) idx (0 : Fin 2) = (idx (ix2 n 0)).toInt
  start1 : ∀ (n : Fin 16384) (c : Fin w) (idx : IVec S16384x1 32), d.start (ix2 n c) idx (1 : Fin 2) = 0
  window0 : ∀ (n : Fin 16384) (c : Fin w), d.window (ix2 n c) (0 : Fin 2) = 0
  window1 : ∀ (n : Fin 16384) (c : Fin w), d.window (ix2 n c) (1 : Fin 2) = c.val

/-- Where an update of such a scatter lands: in its own column, at the row its label names. -/
theorem AddsRows.lands {w : Nat} {d : ScatterDims ⟨2, ![16, w]⟩ S16384x1 ⟨2, ![16384, w]⟩} (h : AddsRows d) (idx : IVec S16384x1 32)
    (n : Fin 16384) (c : Fin w) (s : Fin 16) (k : Fin w) :
    d.resultIdx? (ix2 n c) idx = some (ix2 s k) ↔ (idx (ix2 n 0)).toInt = s.val ∧ c = k := by
  rw [Routing.resultIdx?_eq_some]
  constructor
  · intro g
    have a0 : d.start (ix2 n c) idx (0 : Fin 2) + ((d.window (ix2 n c) (0 : Fin 2) : Nat) : Int) = (s.val : Int) := g 0
    have a1 : d.start (ix2 n c) idx (1 : Fin 2) + ((d.window (ix2 n c) (1 : Fin 2) : Nat) : Int) = (k.val : Int) := g 1
    rw [h.start0, h.window0] at a0
    rw [h.start1, h.window1] at a1
    exact ⟨by omega, Fin.ext (by omega)⟩
  · rintro ⟨e, rfl⟩ a
    match a with
    | ⟨0, _⟩ =>
      show d.start (ix2 n c) idx (0 : Fin 2) + ((d.window (ix2 n c) (0 : Fin 2) : Nat) : Int) = (s.val : Int)
      rw [h.start0, h.window0, e]; omega
    | ⟨1, _⟩ =>
      show d.start (ix2 n c) idx (1 : Fin 2) + ((d.window (ix2 n c) (1 : Fin 2) : Nat) : Int) = (c.val : Int)
      rw [h.start1, h.window1]; omega

/-- Such a scatter at an index: the operand there plus the updates in its column whose label is its row. -/
theorem AddsRows.apply {w : Nat} {d : ScatterDims ⟨2, ![16, w]⟩ S16384x1 ⟨2, ![16384, w]⟩} (h : AddsRows d)
    (x : FVec Ideal ⟨2, ![16, w]⟩ .f32) (idx : IVec S16384x1 32) (u : FVec Ideal ⟨2, ![16384, w]⟩ .f32) (s : Fin 16) (k : Fin w) :
    Host.scatterAdd d x idx u (ix2 s k)
      = x (ix2 s k) + ∑ n : Fin 16384, if (idx (ix2 n 0)).toInt = s.val then u (ix2 n k) else 0 := by
  unfold Host.scatterAdd
  rw [Ideal.hostScatterAdd_def]
  unfold Ideal.hostScatterAdd
  rw [Finset.sum_filter, sum_idx2]
  refine congrArg (fun v : EReal => x (ix2 s k) + v) (Finset.sum_congr rfl fun n _ => ?_)
  simp only [h.lands]
  by_cases e : (idx (ix2 n 0)).toInt = s.val
  · simp [e]
  · simp [e]

/-- The 32-column scatter is of that kind. -/
theorem rows32 : AddsRows scatter_S16x32_S16384x1_S16384x32_1_0_0_1 where
  start0 n c idx := by
    unfold ScatterDims.start
    rw [dif_pos (by decide)]
    congr 2
    funext a
    match a with
    | ⟨0, _⟩ => rfl
    | ⟨1, _⟩ => rfl
  start1 _ _ _ := rfl
  window0 _ _ := rfl
  window1 _ _ := rfl

/-- The 2048-column scatter is of that kind. -/
theorem rows2048 : AddsRows scatter_S16x2048_S16384x1_S16384x2048_1_0_0_1 where
  start0 n c idx := by
    unfold ScatterDims.start
    rw [dif_pos (by decide)]
    congr 2
    funext a
    match a with
    | ⟨0, _⟩ => rfl
    | ⟨1, _⟩ => rfl
  start1 _ _ _ := rfl
  window0 _ _ := rfl
  window1 _ _ := rfl

/-- A segment's word, read as a signed number, is its number. -/
theorem toInt_seg : ∀ s : Fin 16, (BitVec.ofNat 32 s.val).toInt = s.val := by decide

/-- A label read as a signed number is the segment's number exactly when it is the segment's word. -/
theorem toInt_iff (v : BitVec 32) (s : Fin 16) : v.toInt = s.val ↔ v = BitVec.ofNat 32 s.val :=
  ⟨fun h => BitVec.eq_of_toInt_eq (h.trans (toInt_seg s).symm), fun h => h ▸ toInt_seg s⟩

section Value

variable (x : Mat 16384 1024) (lab : Labels) (w : Mat 1024 64) (b : Row 64) (gw : Mat 64 32) (gb : Row 32)

/-- The reference's encoder rows. -/
theorem v3_apply (n : Fin 16384) (j : Fin 64) : val_main_v3 (F := Ideal) x w b (ix2 n j) = hid x w b n j := by
  rw [val_main_v3_apply]
  unfold hid
  pointwise [val_main_v0, val_main_v2, val_main_v1]

/-- The reference's exponentials of the gate scores. -/
theorem v8_apply (n : Fin 16384) (c : Fin 32) : val_main_v8 (F := Ideal) x w b gw gb (ix2 n c) = ex x w b gw gb n c := by
  unfold ex
  simp only [← v3_apply]
  unfold val_main_v8 val_main_v7 val_main_v4
  generalize val_main_v3 (F := Ideal) x w b = h
  pointwise [val_main_v6, val_main_v5]

/-- The first scatter: the sum of a segment's exponentials. -/
theorem v11_apply (s : Fin 16) (c : Fin 32) :
    val_main_v11 (F := Ideal) x lab w b gw gb (ix2 s c) = ∑ n, if hit lab s n then ex x w b gw gb n c else 0 := by
  unfold val_main_v11
  rw [rows32.apply]
  have z : val_main_v9 (F := Ideal) (ix2 s c) = 0 := by pointwise [val_main_v9, val_main_cst]
  rw [z, zero_add]
  refine Finset.sum_congr rfl fun n _ => ?_
  have l : val_main_v10 (F := Ideal) lab (ix2 n 0) = lab (ix1 n) := by pointwise [val_main_v10]
  rw [l, v8_apply]
  exact if_congr (toInt_iff _ _) rfl rfl

/-- The gather: a row of segment `s` reads that segment's sum. -/
theorem v18_apply (s : Fin 16) (n : Fin 16384) (c : Fin 32) (h : hit lab s n) :
    val_main_v18 (F := Ideal) x lab w b gw gb (ix2 n c) = val_main_v11 (F := Ideal) x lab w b gw gb (ix2 s c) := by
  unfold val_main_v18
  have l : val_main_v17 (F := Ideal) lab (ix2 n 0) = BitVec.ofNat 32 s.val := by
    have e : val_main_v17 (F := Ideal) lab (ix2 n 0) = val_main_v16 (F := Ideal) lab (ix1 n) := by pointwise [val_main_v17]
    rw [e, val_main_v16_apply, val_main_v13_apply, val_main_v12_apply, val_main_c_apply, h]
    apply Routing.wrap_of_lt
    have := s.isLt
    rw [BitVec.toNat_ofNat]
    omega
  rw [ix2_eq_valueIdx, ix2_eq_valueIdx]
  rw [ix2_eq_valueIdx] at l
  exact Routing.gather_row _ rfl rfl rfl rfl rfl _ _ n c s l (by decide)

/-- Column `64 c + j` of the result. -/
def col (c : Fin 32) (j : Fin 64) : Fin 2048 := ⟨64 * c.val + j.val, by omega⟩

/-- The normalised exponential of a row times its feature, in the flattened layout. -/
theorem v27_apply (n : Fin 16384) (c : Fin 32) (j : Fin 64) :
    val_main_v27 (F := Ideal) x lab w b gw gb (ix2 n (col c j))
      = Ideal.div (ex x w b gw gb n c) (val_main_v18 (F := Ideal) x lab w b gw gb (ix2 n c) + eps) * hid x w b n j := by
  have e : val_main_v27 (F := Ideal) x lab w b gw gb (ix2 n (col c j)) = val_main_v26 (F := Ideal) x lab w b gw gb (ix3 n c j) := by
    unfold val_main_v27
    apply shapeCast_apply
    rw [Shape.rowMajor_val_three, Shape.rowMajor_val_two]
    show (n.val * 32 + c.val) * 64 + j.val = n.val * 2048 + (64 * c.val + j.val)
    omega
  rw [e, ← v8_apply, ← v3_apply]
  unfold val_main_v26 val_main_v25 val_main_v24 val_main_v23 val_main_v22 val_main_v21 val_main_v20
  generalize val_main_v3 (F := Ideal) x w b = h
  generalize val_main_v8 (F := Ideal) x w b gw gb = q
  generalize val_main_v18 (F := Ideal) x lab w b gw gb = d
  pointwise [val_main_v19, val_main_cst_1]
  rfl

/-- The reference's result at an index. -/
theorem v31_apply (s : Fin 16) (c : Fin 32) (j : Fin 64) :
    val_main_v31 (F := Ideal) x lab w b gw gb (ix2 s (col c j))
      = pooledBefore (hit lab s) (fun n => ex x w b gw gb n c) (fun n => hid x w b n j) := by
  rw [val_main_v31_apply]
  have z1 : val_main_call0_v0 (F := Ideal) (ix2 s (col c j)) = 0 := by pointwise [val_main_call0_v0, val_main_call0_cst]
  rw [z1]
  unfold val_main_v30 pooledBefore
  rw [rows2048.apply]
  have z : val_main_v28 (F := Ideal) (ix2 s (col c j)) = 0 := by pointwise [val_main_v28, val_main_cst_2]
  rw [z, zero_add]
  refine congrArg (fun u : EReal => max u 0) ?_
  refine Finset.sum_congr rfl fun n _ => ?_
  have l : val_main_v29 (F := Ideal) lab (ix2 n 0) = lab (ix1 n) := by pointwise [val_main_v29]
  rw [l]
  by_cases h : hit lab s n
  · rw [if_pos ((toInt_iff _ _).2 h), if_pos h, v27_apply, v18_apply x lab w b gw gb s n c h, v11_apply]
  · rw [if_neg fun q => h ((toInt_iff _ _).1 q), if_neg h]

end Value

end Cert.Math

end
-- ==== Proof.Math.Equation.lean ====
/- The equation behind the claim: dividing a sum by its denominator is summing the quotients, on the extended reals,
   because the denominator is positive whatever the scores are. -/
module

public import proofs.«01_k».proof.Proof.Math.Spec

@[expose] public section

noncomputable section

namespace Cert.Math

open Idealize.ShloMosaic

/-- The exponential is nowhere negative. -/
theorem exp_nonneg (x : EReal) : 0 ≤ Ideal.exp x := by
  induction x with
  | bot => rw [Ideal.exp_bot]
  | coe r => rw [Ideal.exp_coe]; exact EReal.coe_nonneg.2 (Real.exp_pos r).le
  | top => rw [Ideal.exp_top]; exact le_top

/-- The guard is positive. -/
theorem eps_pos : 0 < eps := by
  have h : eps = (((2 ^ 23 + 6722965 : ℕ) : ℝ) * (2 : ℝ) ^ (-77 : ℤ) : ℝ) := by
    simp [eps, Ideal.ofBits, Ideal.ieee]
  rw [h]
  exact EReal.coe_pos.2 (by positivity)

/-- A factor that is nonnegative and finite goes under a finite sum. -/
theorem sum_mul_of {ι : Type} (s : Finset ι) (f : ι → EReal) {r : EReal} (h0 : 0 ≤ r) (ht : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

/-- The inverse of something positive is nonnegative and finite. -/
theorem inv_of_pos {d : EReal} (h : 0 < d) : 0 ≤ d⁻¹ ∧ d⁻¹ ≠ ⊤ := by
  refine ⟨EReal.inv_nonneg_of_nonneg h.le, ?_⟩
  induction d with
  | bot => simp
  | coe r => rw [← EReal.coe_inv]; exact EReal.coe_ne_top _
  | top => simp

/-- The two spellings of an entry of the result are equal, whichever rows are in the segment, at any features and any
    nonnegative exponentials. -/
theorem pooled_eq {ι : Type} [Fintype ι] (p : ι → Prop) [DecidablePred p] (e h : ι → EReal) (he : ∀ n, 0 ≤ e n) :
    pooledAfter p e h = pooledBefore p e h := by
  unfold pooledAfter pooledBefore
  simp only [mul_one]
  have hD0 : 0 ≤ ∑ n, if p n then e n else 0 := Finset.sum_nonneg fun n _ => by split <;> [exact he n; exact le_rfl]
  generalize (∑ n, if p n then e n else 0) = D at hD0 ⊢
  have hpos : 0 < D + eps := lt_of_lt_of_le eps_pos (le_add_of_nonneg_left hD0)
  obtain ⟨hi0, hit⟩ := inv_of_pos hpos
  congr 1
  unfold Ideal.div
  simp only [if_neg hpos.ne']
  rw [sum_mul_of _ _ hi0 hit]
  refine Finset.sum_congr rfl fun n _ => ?_
  split
  · exact mul_right_comm _ _ _
  · simp

end Cert.Math

end
-- ==== Proof.Math.Result.lean ====
/- The two programs leave the same result: the kernel's array at an index against the reference's. -/
module

public import proofs.«01_k».proof.Proof.Math.Array
public import proofs.«01_k».proof.Proof.Math.Reference
public import proofs.«01_k».proof.Proof.Math.Equation

@[expose] public section

set_option maxRecDepth 16384

noncomputable section

namespace Cert.Math

open Idealize.ShloMosaic Idealize.ShloMosaic.TcCoe Idealize.SL.Sem

/-- A column of the result is a channel and a feature. -/
theorem col_eta (n : Fin 2048) : n = col ⟨n.val / 64, by omega⟩ ⟨n.val % 64, by omega⟩ :=
  Fin.ext (by show n.val = 64 * (n.val / 64) + n.val % 64; omega)

/-- On any arguments the kernel's result is the reference's: at every index the masked exponentials' weighted sum over their
    guarded sum is the sum of the rows normalised one by one. -/
theorem result_eq (m : (ℓ : Loc Cert.KernelIdeal.nD Cert.KernelIdeal.τ Cert.KernelIdeal.sig) → Buf (Elt Ideal) ℓ) (c : Dev Cert.KernelIdeal.nD) :
    (Pipeline.afterTail₀ Cert.KernelIdeal.cfgs (Cert.KernelIdeal.Own.dats m) 0 (Cert.KernelIdeal.Gen.V0 m) [Cert.KernelIdeal.Gen.hostOps1] c Cert.KernelIdeal.main_v4 : Mat 16 2048)
      = Cert.ReferenceIdeal.Read.val_main_v31 (F := Ideal) (argX m c) (argLab m c) (argW m c) (argB m c) (argGW m c) (argGB m c) := by
  funext i
  obtain ⟨s, n, rfl⟩ : ∃ (s : Fin 16) (n : Fin 2048), i = ix2 s n := ⟨i 0, i 1, (ix2_eta i).symm⟩
  rw [col_eta n, v31_apply]
  refine (res_apply m c s ⟨n.val / 64, by omega⟩ ⟨n.val % 64, by omega⟩).trans ?_
  exact pooled_eq _ _ _ fun _ => exp_nonneg _

/-- The kernel's run: the result array holds the pooled features, the arguments are as they were. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v4)
        = Cert.ReferenceIdeal.Read.val_main_v31 (F := Ideal) (argX m c) (argLab m c) (argW m c) (argB m c) (argGW m c) (argGB m c)) :=
  (θ_run _ _ _).mono (fun _ h c => ((h.1 c).2 Cert.KernelIdeal.main_v4 (Pipeline.mem_restRefs_of Cert.KernelIdeal.main_v4 (by decide) (by decide))).trans (result_eq m c))
    (Cert.KernelIdeal.Own.run_main m g)

end Cert.Math

end
-- ==== Proof.lean ====
/- The assembled proof of `Cert.Claim`: the three programs run to completion and leave their arguments alone, the idealized
   kernel is the kernel's, and over the extended reals the kernel and the reference leave the same result. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run.Frame
public import proofs.«01_k».proof.Proof.Run.Same
public import proofs.«01_k».proof.Proof.Math.Result
public import Idealize.ShloMosaic.Adequacy
public import Idealize.ShloMosaic.Init

@[expose] public section

noncomputable section

namespace Cert.Proof

open Idealize.ShloMosaic Idealize.SL.Sem

/-- The reference ends with its arguments as they were; it has no semaphore. -/
theorem quiescent_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The two idealized programs leave the same result on the same arguments. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Read.val_main_v31 (F := Ideal) (Cert.Math.argX m c) (Cert.Math.argLab m c) (Cert.Math.argW m c)
    (Cert.Math.argB m c) (Cert.Math.argGW m c) (Cert.Math.argGB m c), ?_, ?_⟩
  · exact (θ_run _ _ _).mono (fun _ h c => ⟨h.1 c, h.2.1 c⟩) (θ_run_and (Cert.Math.kernel_run m g) (Cert.KernelIdeal.Own.frame m g))
  · refine (θ_run _ _ _).mono (fun _ h c => ⟨(h c).1.trans ?_, (h c).2⟩) (Cert.ReferenceIdeal.Value.run m' g')
    obtain ⟨h0, h1, h2, h3, h4, h5⟩ := hm c
    rw [Cert.ReferenceIdeal.Read.val_main_v31_eq, h0, h1, h2, h3, h4, h5]

/-- Everything claimed of the three programs. -/
theorem claim : Cert.Claim := ⟨Cert.Kernel.Gen.facts, Cert.KernelIdeal.Gen.facts, Cert.ReferenceIdeal.Gen.facts,
  Cert.Same.quiescent_kernel, fun m g _ => Cert.KernelIdeal.Own.frame m g, quiescent_reference, trivial, algebraic⟩

end Cert.Proof

end
